-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 2048]⟩ ⟨2, ![4096, 2048]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S4096x2048 : Shape := ⟨2, ![4096, 2048]⟩
abbrev S1024x2048 : Shape := ⟨2, ![1024, 2048]⟩
abbrev S2x1024x1024 : Shape := ⟨3, ![2, 1024, 1024]⟩
abbrev S16x256x1024 : Shape := ⟨3, ![16, 256, 1024]⟩
abbrev S2x1024x2048 : Shape := ⟨3, ![2, 1024, 2048]⟩
abbrev S12x256x1024 : Shape := ⟨3, ![12, 256, 1024]⟩
abbrev S5 : Shape := ⟨1, ![5]⟩
abbrev S2 : Shape := ⟨1, ![2]⟩
abbrev S12 : Shape := ⟨1, ![12]⟩
abbrev S_ : Shape := ⟨0, ![]⟩
abbrev S1 : Shape := ⟨1, ![1]⟩
abbrev S1x256x1024 : Shape := ⟨3, ![1, 256, 1024]⟩
abbrev S256x1024 : Shape := ⟨2, ![256, 1024]⟩
abbrev S1x768x1024 : Shape := ⟨3, ![1, 768, 1024]⟩
abbrev S768x1024 : Shape := ⟨2, ![768, 1024]⟩
abbrev S1x1024x1024 : Shape := ⟨3, ![1, 1024, 1024]⟩
abbrev S1024x1024 : Shape := ⟨2, ![1024, 1024]⟩
abbrev S1x1024x2048 : Shape := ⟨3, ![1, 1024, 2048]⟩
abbrev S256x2048 : Shape := ⟨2, ![256, 2048]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S1024x2048, .f32⟩
  | .local _ .vmem, ⟨0, _⟩ => ⟨S1024x2048, .f32⟩
  | .local _ .vmem, ⟨1, _⟩ => ⟨S2x1024x1024, .f32⟩
  | .local _ .vmem, ⟨2, _⟩ => ⟨S16x256x1024, .bf16⟩
  | .local _ .vmem, ⟨3, _⟩ => ⟨S2x1024x2048, .f32⟩
  | .local _ .vmem, ⟨4, _⟩ => ⟨S12x256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  (ofTc nBuf bufTy 1 32 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_27 : BitVec 32 := 1#32
  let v43 : BitVec 32 := Scalar.addi v2 c1_i32_27
  let c4_i32_28 : BitVec 32 := 4#32
  let c0_i32_29 : BitVec 32 := 0#32
  let v44 : BitVec 1 := Scalar.cmpi .eq c4_i32_28 c0_i32_29
  let c1_i32_30 : BitVec 32 := 1#32
  let v45 : BitVec 32 := Scalar.select v44 c1_i32_30 c4_i32_28
  let v46 : BitVec 32 := Scalar.remsi v43 v45
  let c0_i32_32 : BitVec 32 := 0#32
  let v48 : BitVec 1 := Scalar.cmpi .slt v46 c0_i32_32
  let c0_i32_33 : BitVec 32 := 0#32
  let v49 : BitVec 1 := Scalar.cmpi .slt v45 c0_i32_33
  let v50 : BitVec 1 := Scalar.xori v48 v49
  let c0_i32_31 : BitVec 32 := 0#32
  let v47 : BitVec 1 := Scalar.cmpi .ne v46 c0_i32_31
  let v51 : BitVec 1 := Scalar.andi v50 v47
  let v52 : BitVec 32 := Scalar.addi v46 v45
  let v53 : BitVec 32 := Scalar.select v51 v52 v46
  let c1024_i32 : BitVec 32 := 1024#32
  let v76 : BitVec 32 := Scalar.muli v53 c1024_i32
  let c0_i32_56 : BitVec 32 := 0#32
  ![v76.toNat, 0]
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_27 : BitVec 32 := 1#32
  let v43 : BitVec 32 := Scalar.addi v2 c1_i32_27
  let c4_i32_28 : BitVec 32 := 4#32
  let c0_i32_29 : BitVec 32 := 0#32
  let v44 : BitVec 1 := Scalar.cmpi .eq c4_i32_28 c0_i32_29
  let c1_i32_30 : BitVec 32 := 1#32
  let v45 : BitVec 32 := Scalar.select v44 c1_i32_30 c4_i32_28
  let v46 : BitVec 32 := Scalar.remsi v43 v45
  let c0_i32_32 : BitVec 32 := 0#32
  let v48 : BitVec 1 := Scalar.cmpi .slt v46 c0_i32_32
  let c0_i32_33 : BitVec 32 := 0#32
  let v49 : BitVec 1 := Scalar.cmpi .slt v45 c0_i32_33
  let v50 : BitVec 1 := Scalar.xori v48 v49
  let c0_i32_31 : BitVec 32 := 0#32
  let v47 : BitVec 1 := Scalar.cmpi .ne v46 c0_i32_31
  let v51 : BitVec 1 := Scalar.andi v50 v47
  let v52 : BitVec 32 := Scalar.addi v46 v45
  let v53 : BitVec 32 := Scalar.select v51 v52 v46
  let c1024_i32_48 : BitVec 32 := 1024#32
  let v77 : BitVec 32 := Scalar.muli v53 c1024_i32_48
  let c256_i32 : BitVec 32 := 256#32
  let v78 : BitVec 32 := Scalar.addi v77 c256_i32
  let c0_i32_61 : BitVec 32 := 0#32
  ![v78.toNat, 0]
def k0_off3 (d0 : Dev nD) (c3_i32_34 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v54 : BitVec 32 := Scalar.addi v2 c3_i32_34
  let c4_i32_35 : BitVec 32 := 4#32
  let c0_i32_36 : BitVec 32 := 0#32
  let v55 : BitVec 1 := Scalar.cmpi .eq c4_i32_35 c0_i32_36
  let c1_i32_37 : BitVec 32 := 1#32
  let v56 : BitVec 32 := Scalar.select v55 c1_i32_37 c4_i32_35
  let v57 : BitVec 32 := Scalar.remsi v54 v56
  let c0_i32_39 : BitVec 32 := 0#32
  let v59 : BitVec 1 := Scalar.cmpi .slt v57 c0_i32_39
  let c0_i32_40 : BitVec 32 := 0#32
  let v60 : BitVec 1 := Scalar.cmpi .slt v56 c0_i32_40
  let v61 : BitVec 1 := Scalar.xori v59 v60
  let c0_i32_38 : BitVec 32 := 0#32
  let v58 : BitVec 1 := Scalar.cmpi .ne v57 c0_i32_38
  let v62 : BitVec 1 := Scalar.andi v61 v58
  let v63 : BitVec 32 := Scalar.addi v57 v56
  let v64 : BitVec 32 := Scalar.select v62 v63 v57
  let c1024_i32_49 : BitVec 32 := 1024#32
  let v79 : BitVec 32 := Scalar.muli v64 c1024_i32_49
  let c0_i32_66 : BitVec 32 := 0#32
  ![v79.toNat, 0]
def k0_dev4 (d0 : Dev nD) : Nat :=
  let c0_i32_83 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_27 : BitVec 32 := 1#32
  let v43 : BitVec 32 := Scalar.addi v2 c1_i32_27
  let c4_i32_28 : BitVec 32 := 4#32
  let c0_i32_29 : BitVec 32 := 0#32
  let v44 : BitVec 1 := Scalar.cmpi .eq c4_i32_28 c0_i32_29
  let c1_i32_30 : BitVec 32 := 1#32
  let v45 : BitVec 32 := Scalar.select v44 c1_i32_30 c4_i32_28
  let v46 : BitVec 32 := Scalar.remsi v43 v45
  let c0_i32_32 : BitVec 32 := 0#32
  let v48 : BitVec 1 := Scalar.cmpi .slt v46 c0_i32_32
  let c0_i32_33 : BitVec 32 := 0#32
  let v49 : BitVec 1 := Scalar.cmpi .slt v45 c0_i32_33
  let v50 : BitVec 1 := Scalar.xori v48 v49
  let c0_i32_31 : BitVec 32 := 0#32
  let v47 : BitVec 1 := Scalar.cmpi .ne v46 c0_i32_31
  let v51 : BitVec 1 := Scalar.andi v50 v47
  let v52 : BitVec 32 := Scalar.addi v46 v45
  let v53 : BitVec 32 := Scalar.select v51 v52 v46
  let c1_i32_82 : BitVec 32 := 1#32
  let v108 : BitVec 32 := Scalar.muli v53 c1_i32_82
  let v109 : BitVec 32 := Scalar.addi c0_i32_83 v108
  v109.toNat
def k0_dev5 (d0 : Dev nD) : Nat :=
  let c0_i32_102 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_27 : BitVec 32 := 1#32
  let v43 : BitVec 32 := Scalar.addi v2 c1_i32_27
  let c4_i32_28 : BitVec 32 := 4#32
  let c0_i32_29 : BitVec 32 := 0#32
  let v44 : BitVec 1 := Scalar.cmpi .eq c4_i32_28 c0_i32_29
  let c1_i32_30 : BitVec 32 := 1#32
  let v45 : BitVec 32 := Scalar.select v44 c1_i32_30 c4_i32_28
  let v46 : BitVec 32 := Scalar.remsi v43 v45
  let c0_i32_32 : BitVec 32 := 0#32
  let v48 : BitVec 1 := Scalar.cmpi .slt v46 c0_i32_32
  let c0_i32_33 : BitVec 32 := 0#32
  let v49 : BitVec 1 := Scalar.cmpi .slt v45 c0_i32_33
  let v50 : BitVec 1 := Scalar.xori v48 v49
  let c0_i32_31 : BitVec 32 := 0#32
  let v47 : BitVec 1 := Scalar.cmpi .ne v46 c0_i32_31
  let v51 : BitVec 1 := Scalar.andi v50 v47
  let v52 : BitVec 32 := Scalar.addi v46 v45
  let v53 : BitVec 32 := Scalar.select v51 v52 v46
  let c1_i32_101 : BitVec 32 := 1#32
  let v129 : BitVec 32 := Scalar.muli v53 c1_i32_101
  let v130 : BitVec 32 := Scalar.addi c0_i32_102 v129
  v130.toNat
def k0_dev6 (d0 : Dev nD) : Nat :=
  let c0_i32_116 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_27 : BitVec 32 := 1#32
  let v43 : BitVec 32 := Scalar.addi v2 c1_i32_27
  let c4_i32_28 : BitVec 32 := 4#32
  let c0_i32_29 : BitVec 32 := 0#32
  let v44 : BitVec 1 := Scalar.cmpi .eq c4_i32_28 c0_i32_29
  let c1_i32_30 : BitVec 32 := 1#32
  let v45 : BitVec 32 := Scalar.select v44 c1_i32_30 c4_i32_28
  let v46 : BitVec 32 := Scalar.remsi v43 v45
  let c0_i32_32 : BitVec 32 := 0#32
  let v48 : BitVec 1 := Scalar.cmpi .slt v46 c0_i32_32
  let c0_i32_33 : BitVec 32 := 0#32
  let v49 : BitVec 1 := Scalar.cmpi .slt v45 c0_i32_33
  let v50 : BitVec 1 := Scalar.xori v48 v49
  let c0_i32_31 : BitVec 32 := 0#32
  let v47 : BitVec 1 := Scalar.cmpi .ne v46 c0_i32_31
  let v51 : BitVec 1 := Scalar.andi v50 v47
  let v52 : BitVec 32 := Scalar.addi v46 v45
  let v53 : BitVec 32 := Scalar.select v51 v52 v46
  let c1_i32_115 : BitVec 32 := 1#32
  let v145 : BitVec 32 := Scalar.muli v53 c1_i32_115
  let v146 : BitVec 32 := Scalar.addi c0_i32_116 v145
  v146.toNat
def k0_dev7 (d0 : Dev nD) : Nat :=
  let c0_i32_130 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_27 : BitVec 32 := 1#32
  let v43 : BitVec 32 := Scalar.addi v2 c1_i32_27
  let c4_i32_28 : BitVec 32 := 4#32
  let c0_i32_29 : BitVec 32 := 0#32
  let v44 : BitVec 1 := Scalar.cmpi .eq c4_i32_28 c0_i32_29
  let c1_i32_30 : BitVec 32 := 1#32
  let v45 : BitVec 32 := Scalar.select v44 c1_i32_30 c4_i32_28
  let v46 : BitVec 32 := Scalar.remsi v43 v45
  let c0_i32_32 : BitVec 32 := 0#32
  let v48 : BitVec 1 := Scalar.cmpi .slt v46 c0_i32_32
  let c0_i32_33 : BitVec 32 := 0#32
  let v49 : BitVec 1 := Scalar.cmpi .slt v45 c0_i32_33
  let v50 : BitVec 1 := Scalar.xori v48 v49
  let c0_i32_31 : BitVec 32 := 0#32
  let v47 : BitVec 1 := Scalar.cmpi .ne v46 c0_i32_31
  let v51 : BitVec 1 := Scalar.andi v50 v47
  let v52 : BitVec 32 := Scalar.addi v46 v45
  let v53 : BitVec 32 := Scalar.select v51 v52 v46
  let c1_i32_129 : BitVec 32 := 1#32
  let v161 : BitVec 32 := Scalar.muli v53 c1_i32_129
  let v162 : BitVec 32 := Scalar.addi c0_i32_130 v161
  v162.toNat
def k0_dev8 (d0 : Dev nD) : Nat :=
  let c0_i32_155 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_34 : BitVec 32 := 3#32
  let v54 : BitVec 32 := Scalar.addi v2 c3_i32_34
  let c4_i32_35 : BitVec 32 := 4#32
  let c0_i32_36 : BitVec 32 := 0#32
  let v55 : BitVec 1 := Scalar.cmpi .eq c4_i32_35 c0_i32_36
  let c1_i32_37 : BitVec 32 := 1#32
  let v56 : BitVec 32 := Scalar.select v55 c1_i32_37 c4_i32_35
  let v57 : BitVec 32 := Scalar.remsi v54 v56
  let c0_i32_39 : BitVec 32 := 0#32
  let v59 : BitVec 1 := Scalar.cmpi .slt v57 c0_i32_39
  let c0_i32_40 : BitVec 32 := 0#32
  let v60 : BitVec 1 := Scalar.cmpi .slt v56 c0_i32_40
  let v61 : BitVec 1 := Scalar.xori v59 v60
  let c0_i32_38 : BitVec 32 := 0#32
  let v58 : BitVec 1 := Scalar.cmpi .ne v57 c0_i32_38
  let v62 : BitVec 1 := Scalar.andi v61 v58
  let v63 : BitVec 32 := Scalar.addi v57 v56
  let v64 : BitVec 32 := Scalar.select v62 v63 v57
  let c1_i32_154 : BitVec 32 := 1#32
  let v187 : BitVec 32 := Scalar.muli v64 c1_i32_154
  let v188 : BitVec 32 := Scalar.addi c0_i32_155 v187
  v188.toNat
def k0_dev9 (d0 : Dev nD) : Nat :=
  let c0_i32_169 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_34 : BitVec 32 := 3#32
  let v54 : BitVec 32 := Scalar.addi v2 c3_i32_34
  let c4_i32_35 : BitVec 32 := 4#32
  let c0_i32_36 : BitVec 32 := 0#32
  let v55 : BitVec 1 := Scalar.cmpi .eq c4_i32_35 c0_i32_36
  let c1_i32_37 : BitVec 32 := 1#32
  let v56 : BitVec 32 := Scalar.select v55 c1_i32_37 c4_i32_35
  let v57 : BitVec 32 := Scalar.remsi v54 v56
  let c0_i32_39 : BitVec 32 := 0#32
  let v59 : BitVec 1 := Scalar.cmpi .slt v57 c0_i32_39
  let c0_i32_40 : BitVec 32 := 0#32
  let v60 : BitVec 1 := Scalar.cmpi .slt v56 c0_i32_40
  let v61 : BitVec 1 := Scalar.xori v59 v60
  let c0_i32_38 : BitVec 32 := 0#32
  let v58 : BitVec 1 := Scalar.cmpi .ne v57 c0_i32_38
  let v62 : BitVec 1 := Scalar.andi v61 v58
  let v63 : BitVec 32 := Scalar.addi v57 v56
  let v64 : BitVec 32 := Scalar.select v62 v63 v57
  let c1_i32_168 : BitVec 32 := 1#32
  let v203 : BitVec 32 := Scalar.muli v64 c1_i32_168
  let v204 : BitVec 32 := Scalar.addi c0_i32_169 v203
  v204.toNat
def k0_dev10 (d0 : Dev nD) : Nat :=
  let c0_i32_183 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_34 : BitVec 32 := 3#32
  let v54 : BitVec 32 := Scalar.addi v2 c3_i32_34
  let c4_i32_35 : BitVec 32 := 4#32
  let c0_i32_36 : BitVec 32 := 0#32
  let v55 : BitVec 1 := Scalar.cmpi .eq c4_i32_35 c0_i32_36
  let c1_i32_37 : BitVec 32 := 1#32
  let v56 : BitVec 32 := Scalar.select v55 c1_i32_37 c4_i32_35
  let v57 : BitVec 32 := Scalar.remsi v54 v56
  let c0_i32_39 : BitVec 32 := 0#32
  let v59 : BitVec 1 := Scalar.cmpi .slt v57 c0_i32_39
  let c0_i32_40 : BitVec 32 := 0#32
  let v60 : BitVec 1 := Scalar.cmpi .slt v56 c0_i32_40
  let v61 : BitVec 1 := Scalar.xori v59 v60
  let c0_i32_38 : BitVec 32 := 0#32
  let v58 : BitVec 1 := Scalar.cmpi .ne v57 c0_i32_38
  let v62 : BitVec 1 := Scalar.andi v61 v58
  let v63 : BitVec 32 := Scalar.addi v57 v56
  let v64 : BitVec 32 := Scalar.select v62 v63 v57
  let c1_i32_182 : BitVec 32 := 1#32
  let v219 : BitVec 32 := Scalar.muli v64 c1_i32_182
  let v220 : BitVec 32 := Scalar.addi c0_i32_183 v219
  v220.toNat
def k0_dev11 (d0 : Dev nD) : Nat :=
  let c0_i32_197 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_34 : BitVec 32 := 3#32
  let v54 : BitVec 32 := Scalar.addi v2 c3_i32_34
  let c4_i32_35 : BitVec 32 := 4#32
  let c0_i32_36 : BitVec 32 := 0#32
  let v55 : BitVec 1 := Scalar.cmpi .eq c4_i32_35 c0_i32_36
  let c1_i32_37 : BitVec 32 := 1#32
  let v56 : BitVec 32 := Scalar.select v55 c1_i32_37 c4_i32_35
  let v57 : BitVec 32 := Scalar.remsi v54 v56
  let c0_i32_39 : BitVec 32 := 0#32
  let v59 : BitVec 1 := Scalar.cmpi .slt v57 c0_i32_39
  let c0_i32_40 : BitVec 32 := 0#32
  let v60 : BitVec 1 := Scalar.cmpi .slt v56 c0_i32_40
  let v61 : BitVec 1 := Scalar.xori v59 v60
  let c0_i32_38 : BitVec 32 := 0#32
  let v58 : BitVec 1 := Scalar.cmpi .ne v57 c0_i32_38
  let v62 : BitVec 1 := Scalar.andi v61 v58
  let v63 : BitVec 32 := Scalar.addi v57 v56
  let v64 : BitVec 32 := Scalar.select v62 v63 v57
  let c1_i32_196 : BitVec 32 := 1#32
  let v235 : BitVec 32 := Scalar.muli v64 c1_i32_196
  let v236 : BitVec 32 := Scalar.addi c0_i32_197 v235
  v236.toNat
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_51 : BitVec 32 := 1024#32
  let v81 : BitVec 32 := Scalar.muli v2 c1024_i32_51
  let c0_i32_206 : BitVec 32 := 0#32
  ![v81.toNat, 0]
def k0_dev12 (d0 : Dev nD) : Nat :=
  let c0_i32_221 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_41 : BitVec 32 := 2#32
  let v65 : BitVec 32 := Scalar.addi v2 c2_i32_41
  let c4_i32_42 : BitVec 32 := 4#32
  let c0_i32_43 : BitVec 32 := 0#32
  let v66 : BitVec 1 := Scalar.cmpi .eq c4_i32_42 c0_i32_43
  let c1_i32_44 : BitVec 32 := 1#32
  let v67 : BitVec 32 := Scalar.select v66 c1_i32_44 c4_i32_42
  let v68 : BitVec 32 := Scalar.remsi v65 v67
  let c0_i32_46 : BitVec 32 := 0#32
  let v70 : BitVec 1 := Scalar.cmpi .slt v68 c0_i32_46
  let c0_i32_47 : BitVec 32 := 0#32
  let v71 : BitVec 1 := Scalar.cmpi .slt v67 c0_i32_47
  let v72 : BitVec 1 := Scalar.xori v70 v71
  let c0_i32_45 : BitVec 32 := 0#32
  let v69 : BitVec 1 := Scalar.cmpi .ne v68 c0_i32_45
  let v73 : BitVec 1 := Scalar.andi v72 v69
  let v74 : BitVec 32 := Scalar.addi v68 v67
  let v75 : BitVec 32 := Scalar.select v73 v74 v68
  let c1_i32_220 : BitVec 32 := 1#32
  let v261 : BitVec 32 := Scalar.muli v75 c1_i32_220
  let v262 : BitVec 32 := Scalar.addi c0_i32_221 v261
  v262.toNat
def k0_dev13 (d0 : Dev nD) : Nat :=
  let c0_i32_235 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_41 : BitVec 32 := 2#32
  let v65 : BitVec 32 := Scalar.addi v2 c2_i32_41
  let c4_i32_42 : BitVec 32 := 4#32
  let c0_i32_43 : BitVec 32 := 0#32
  let v66 : BitVec 1 := Scalar.cmpi .eq c4_i32_42 c0_i32_43
  let c1_i32_44 : BitVec 32 := 1#32
  let v67 : BitVec 32 := Scalar.select v66 c1_i32_44 c4_i32_42
  let v68 : BitVec 32 := Scalar.remsi v65 v67
  let c0_i32_46 : BitVec 32 := 0#32
  let v70 : BitVec 1 := Scalar.cmpi .slt v68 c0_i32_46
  let c0_i32_47 : BitVec 32 := 0#32
  let v71 : BitVec 1 := Scalar.cmpi .slt v67 c0_i32_47
  let v72 : BitVec 1 := Scalar.xori v70 v71
  let c0_i32_45 : BitVec 32 := 0#32
  let v69 : BitVec 1 := Scalar.cmpi .ne v68 c0_i32_45
  let v73 : BitVec 1 := Scalar.andi v72 v69
  let v74 : BitVec 32 := Scalar.addi v68 v67
  let v75 : BitVec 32 := Scalar.select v73 v74 v68
  let c1_i32_234 : BitVec 32 := 1#32
  let v277 : BitVec 32 := Scalar.muli v75 c1_i32_234
  let v278 : BitVec 32 := Scalar.addi c0_i32_235 v277
  v278.toNat
def k0_dev14 (d0 : Dev nD) : Nat :=
  let c0_i32_249 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_41 : BitVec 32 := 2#32
  let v65 : BitVec 32 := Scalar.addi v2 c2_i32_41
  let c4_i32_42 : BitVec 32 := 4#32
  let c0_i32_43 : BitVec 32 := 0#32
  let v66 : BitVec 1 := Scalar.cmpi .eq c4_i32_42 c0_i32_43
  let c1_i32_44 : BitVec 32 := 1#32
  let v67 : BitVec 32 := Scalar.select v66 c1_i32_44 c4_i32_42
  let v68 : BitVec 32 := Scalar.remsi v65 v67
  let c0_i32_46 : BitVec 32 := 0#32
  let v70 : BitVec 1 := Scalar.cmpi .slt v68 c0_i32_46
  let c0_i32_47 : BitVec 32 := 0#32
  let v71 : BitVec 1 := Scalar.cmpi .slt v67 c0_i32_47
  let v72 : BitVec 1 := Scalar.xori v70 v71
  let c0_i32_45 : BitVec 32 := 0#32
  let v69 : BitVec 1 := Scalar.cmpi .ne v68 c0_i32_45
  let v73 : BitVec 1 := Scalar.andi v72 v69
  let v74 : BitVec 32 := Scalar.addi v68 v67
  let v75 : BitVec 32 := Scalar.select v73 v74 v68
  let c1_i32_248 : BitVec 32 := 1#32
  let v293 : BitVec 32 := Scalar.muli v75 c1_i32_248
  let v294 : BitVec 32 := Scalar.addi c0_i32_249 v293
  v294.toNat
def k0_dev15 (d0 : Dev nD) : Nat :=
  let c0_i32_263 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_41 : BitVec 32 := 2#32
  let v65 : BitVec 32 := Scalar.addi v2 c2_i32_41
  let c4_i32_42 : BitVec 32 := 4#32
  let c0_i32_43 : BitVec 32 := 0#32
  let v66 : BitVec 1 := Scalar.cmpi .eq c4_i32_42 c0_i32_43
  let c1_i32_44 : BitVec 32 := 1#32
  let v67 : BitVec 32 := Scalar.select v66 c1_i32_44 c4_i32_42
  let v68 : BitVec 32 := Scalar.remsi v65 v67
  let c0_i32_46 : BitVec 32 := 0#32
  let v70 : BitVec 1 := Scalar.cmpi .slt v68 c0_i32_46
  let c0_i32_47 : BitVec 32 := 0#32
  let v71 : BitVec 1 := Scalar.cmpi .slt v67 c0_i32_47
  let v72 : BitVec 1 := Scalar.xori v70 v71
  let c0_i32_45 : BitVec 32 := 0#32
  let v69 : BitVec 1 := Scalar.cmpi .ne v68 c0_i32_45
  let v73 : BitVec 1 := Scalar.andi v72 v69
  let v74 : BitVec 32 := Scalar.addi v68 v67
  let v75 : BitVec 32 := Scalar.select v73 v74 v68
  let c1_i32_262 : BitVec 32 := 1#32
  let v309 : BitVec 32 := Scalar.muli v75 c1_i32_262
  let v310 : BitVec 32 := Scalar.addi c0_i32_263 v309
  v310.toNat
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_314 : BitVec 32 := 1024#32
  let v381 : BitVec 32 := Scalar.muli v2 c1024_i32_314
  let c0_i32_322 : BitVec 32 := 0#32
  ![v381.toNat, 0]
def k0_off6 (d0 : Dev nD) (c3_i32_293 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v348 : BitVec 32 := Scalar.addi v2 c3_i32_293
  let c4_i32_294 : BitVec 32 := 4#32
  let c0_i32_295 : BitVec 32 := 0#32
  let v349 : BitVec 1 := Scalar.cmpi .eq c4_i32_294 c0_i32_295
  let c1_i32_296 : BitVec 32 := 1#32
  let v350 : BitVec 32 := Scalar.select v349 c1_i32_296 c4_i32_294
  let v351 : BitVec 32 := Scalar.remsi v348 v350
  let c0_i32_298 : BitVec 32 := 0#32
  let v353 : BitVec 1 := Scalar.cmpi .slt v351 c0_i32_298
  let c0_i32_299 : BitVec 32 := 0#32
  let v354 : BitVec 1 := Scalar.cmpi .slt v350 c0_i32_299
  let v355 : BitVec 1 := Scalar.xori v353 v354
  let c0_i32_297 : BitVec 32 := 0#32
  let v352 : BitVec 1 := Scalar.cmpi .ne v351 c0_i32_297
  let v356 : BitVec 1 := Scalar.andi v355 v352
  let v357 : BitVec 32 := Scalar.addi v351 v350
  let v358 : BitVec 32 := Scalar.select v356 v357 v351
  let c1024_i32_315 : BitVec 32 := 1024#32
  let v382 : BitVec 32 := Scalar.muli v358 c1024_i32_315
  let c0_i32_327 : BitVec 32 := 0#32
  ![v382.toNat, 0]
abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Plan.lean ====
/-
# The kernel's body as a short program

The printed body is 250 operations in a row. This module writes the same operations as a program of a few
parametric steps — start a copy, wait for it, convert one tile of `x`, send one tile, multiply one tile, … — indexed
by the slot, the row tile and the step of the contraction, and proves the two programs equal by definitional unfolding
(`body_eq`). Everything the proof says about the kernel it says about these steps, once per step and for every index.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.A2A

open Cert.KernelIdeal Cert.KernelIdeal.Gen
open Idealize.ShloMosaic Idealize.SL.Sem

variable {F : FTy → Type} [FloatOps F]

/-- A program of the kernel's core. -/
abbrev P (F : FTy → Type) [FloatOps F] (α : Type) := Prog (TpuEff nD τ sig (Elt F) Λ₀ .tc) α

/-! ## The buffers and semaphores -/

/-- The arguments, the result's staging buffer and the four scratch buffers. -/
abbrev xM : Memref sig .tc .hbm S4096x1024 .f32 := Memref.whole main_arg0
abbrev wM : Memref sig .tc .hbm S4096x2048 .f32 := Memref.whole main_arg1
abbrev oM : Memref sig .tc .vmem S1024x2048 .f32 := Memref.whole cc0_stg0_0
abbrev xdM : Memref sig .tc .vmem S2x1024x1024 .f32 := Memref.whole cc0_scratch0
abbrev xbM : Memref sig .tc .vmem S16x256x1024 .bf16 := Memref.whole cc0_scratch1
abbrev wdM : Memref sig .tc .vmem S2x1024x2048 .f32 := Memref.whole cc0_scratch2
abbrev rbM : Memref sig .tc .vmem S12x256x1024 .bf16 := Memref.whole cc0_scratch3

/-- The semaphore arrays have five, two and twelve members. -/
theorem inb5 (s : Fin 5) : ∀ a, (![s.val] : Fin 1 → Nat) a + S1.size a ≤ S5.size a := by revert s; decide
theorem inb2 (s : Fin 2) : ∀ a, (![s.val] : Fin 1 → Nat) a + S1.size a ≤ S2.size a := by revert s; decide
theorem inb12 (s : Fin 12) : ∀ a, (![s.val] : Fin 1 → Nat) a + S1.size a ≤ S12.size a := by revert s; decide

/-- The barrier's semaphore. -/
abbrev barS : Sem sig := (SemArray.scalar (sig.barrier 0 rfl) : Sems sig S_).sem
/-- The semaphores of the five copies of `x`, of the two buffers of `w`, of the twelve sends and the twelve receipts. -/
abbrev xS (s : Fin 5) : DmaSem sig :=
  ((cc0_scratch4.slice (Rect.unit (s := S5) ![s.val] S1.size (inb5 s))).squeeze S_ squeezes_S1_S_ : DmaSems sig S_).sem
/-- The semaphores of the copies of `w`, of the send ends and of the receive ends. -/
abbrev wS (s : Fin 2) : DmaSem sig :=
  ((cc0_scratch5.slice (Rect.unit (s := S2) ![s.val] S1.size (inb2 s))).squeeze S_ squeezes_S1_S_ : DmaSems sig S_).sem
abbrev sS (s : Fin 12) : DmaSem sig :=
  ((cc0_scratch6.slice (Rect.unit (s := S12) ![s.val] S1.size (inb12 s))).squeeze S_ squeezes_S1_S_ : DmaSems sig S_).sem
abbrev rS (s : Fin 12) : DmaSem sig :=
  ((cc0_scratch7.slice (Rect.unit (s := S12) ![s.val] S1.size (inb12 s))).squeeze S_ squeezes_S1_S_ : DmaSems sig S_).sem

/-! ## The rectangles -/

/-- Every tile, slot, half and row tile lies within its buffer. -/
theorem xd_inb (b : Fin 2) (q : Fin 4) : ∀ a, (![b.val, 256 * q.val, 0] : Fin 3 → Nat) a + S1x256x1024.size a ≤ S2x1024x1024.size a := by
  revert b q; decide
theorem xb_inb (s : Fin 16) : ∀ a, (![s.val, 0, 0] : Fin 3 → Nat) a + S1x256x1024.size a ≤ S16x256x1024.size a := by revert s; decide
theorem rb_inb (s : Fin 12) : ∀ a, (![s.val, 0, 0] : Fin 3 → Nat) a + S1x256x1024.size a ≤ S12x256x1024.size a := by revert s; decide
theorem wd_inb (b : Fin 2) : ∀ a, (![b.val, 0, 0] : Fin 3 → Nat) a + S1x1024x2048.size a ≤ S2x1024x2048.size a := by revert b; decide
theorem o_inb (q : Fin 4) : ∀ a, (![256 * q.val, 0] : Fin 2 → Nat) a + S256x2048.size a ≤ S1024x2048.size a := by revert q; decide

/-- Row tile `q` of half `b` of the buffer `x` is copied into. -/
abbrev xdR (b : Fin 2) (q : Fin 4) : Rect S2x1024x1024 := Rect.unit (s := S2x1024x1024) ![b.val, 256 * q.val, 0] S1x256x1024.size (xd_inb b q)
/-- Slot `s` of the converted tiles. -/
abbrev xbR (s : Fin 16) : Rect S16x256x1024 := Rect.unit (s := S16x256x1024) ![s.val, 0, 0] S1x256x1024.size (xb_inb s)
/-- Slot `s` of the landing buffer. -/
abbrev rbR (s : Fin 12) : Rect S12x256x1024 := Rect.unit (s := S12x256x1024) ![s.val, 0, 0] S1x256x1024.size (rb_inb s)
/-- Half `b` of the buffer `w` is copied into. -/
abbrev wdR (b : Fin 2) : Rect S2x1024x2048 := Rect.unit (s := S2x1024x2048) ![b.val, 0, 0] S1x1024x2048.size (wd_inb b)
/-- Row tile `q` of the result. -/
abbrev oR (q : Fin 4) : Rect S1024x2048 := Rect.unit (s := S1024x2048) ![256 * q.val, 0] S256x2048.size (o_inb q)

/-- Slots are whole machine words, so a store or a transfer touches no other slot. -/
theorem xb_packed (s : Fin 16) : (xbR s).PackedRows (EltTy.packing .bf16) := by revert s; decide
theorem xb_words (s : Fin 16) : (xbR s).WholeWords (EltTy.packing .bf16) := by revert s; decide
theorem rb_words (s : Fin 12) : (rbR s).WholeWords (EltTy.packing .bf16) := by revert s; decide

/-- A slot of the converted tiles and a slot of the landing buffer, as the transfers name them. -/
abbrev xbV (s : Fin 16) : Memref sig .tc .vmem S256x1024 .bf16 := (xbM.slice (xbR s) (fun _ => rfl)).squeeze S256x1024 squeezes_S1x256x1024_S256x1024
abbrev rbV (s : Fin 12) : Memref sig .tc .vmem S256x1024 .bf16 := (rbM.slice (rbR s) (fun _ => rfl)).squeeze S256x1024 squeezes_S1x256x1024_S256x1024

theorem xbV_exact (s : Fin 16) : (xbV s).view.WordExact := ((Memref.isWhole_whole cc0_scratch1).wordExact_slice rfl _ (xb_words s)).reshape _ _
theorem rbV_exact (s : Fin 12) : (rbV s).view.WordExact := ((Memref.isWhole_whole cc0_scratch3).wordExact_slice rfl _ (rb_words s)).reshape _ _

/-- The slot of the converted tiles that transfer `s` sends. -/
abbrev up (s : Fin 12) : Fin 16 := ⟨s.val, Nat.lt_of_lt_of_le s.isLt (by decide)⟩

/-! ## The local copies' ends -/

/-- `n` rows of the block of `x` starting at `off`, and where in half `b` they go. -/
abbrev xsrc1 (c : Dev nD) : Memref sig .tc .hbm S256x1024 .f32 := xM.slice (Rect.unit (s := S4096x1024) (k0_off1 c) S256x1024.size (k0_off1_inb c)) (fun _ => rfl)
/-- The parts of `x` that the later copies read, -/
abbrev xsrc2 (c : Dev nD) : Memref sig .tc .hbm S768x1024 .f32 := xM.slice (Rect.unit (s := S4096x1024) (k0_off2 c) S768x1024.size (k0_off2_inb c)) (fun _ => rfl)
abbrev xsrc (off : Fin 2 → Nat) (h : ∀ a, off a + S1024x1024.size a ≤ S4096x1024.size a) : Memref sig .tc .hbm S1024x1024 .f32 :=
  xM.slice (Rect.unit (s := S4096x1024) off S1024x1024.size h) (fun _ => rfl)
/-- and the parts of its buffer that they fill lie within it. -/
theorem xd2_inb : ∀ a, (![0, 256, 0] : Fin 3 → Nat) a + S1x768x1024.size a ≤ S2x1024x1024.size a := by decide
theorem xdH_inb (b : Fin 2) : ∀ a, (![b.val, 0, 0] : Fin 3 → Nat) a + S1x1024x1024.size a ≤ S2x1024x1024.size a := by revert b; decide
/-- Those parts: the rest of the first half, and a half. -/
abbrev xdR2 : Rect S2x1024x1024 := Rect.unit (s := S2x1024x1024) ![0, 256, 0] S1x768x1024.size xd2_inb
abbrev xdH (b : Fin 2) : Rect S2x1024x1024 := Rect.unit (s := S2x1024x1024) ![b.val, 0, 0] S1x1024x1024.size (xdH_inb b)
/-- The destinations of the copies of `x`. -/
abbrev xdst1 : Memref sig .tc .vmem S256x1024 .f32 := (xdM.slice (xdR 0 0) (fun _ => rfl)).squeeze S256x1024 squeezes_S1x256x1024_S256x1024
abbrev xdst2 : Memref sig .tc .vmem S768x1024 .f32 := (xdM.slice xdR2 (fun _ => rfl)).squeeze S768x1024 squeezes_S1x768x1024_S768x1024
abbrev xdst (b : Fin 2) : Memref sig .tc .vmem S1024x1024 .f32 := (xdM.slice (xdH b) (fun _ => rfl)).squeeze S1024x1024 squeezes_S1x1024x1024_S1024x1024
/-- The source and the destination of a copy of `w`. -/
abbrev wsrc (off : Fin 2 → Nat) (h : ∀ a, off a + S1024x2048.size a ≤ S4096x2048.size a) : Memref sig .tc .hbm S1024x2048 .f32 :=
  wM.slice (Rect.unit (s := S4096x2048) off S1024x2048.size h) (fun _ => rfl)
abbrev wdst (b : Fin 2) : Memref sig .tc .vmem S1024x2048 .f32 := (wdM.slice (wdR b) (fun _ => rfl)).squeeze S1024x2048 squeezes_S1x1024x2048_S1024x2048

/-! ## The steps -/

/-- Start a copy of `f32` elements inside the device. -/
def startCopy {s : Shape} (src : Memref sig .tc .hbm s .f32) (dst : Memref sig .tc .vmem s .f32) (sem : DmaSem sig)
    (hs : src.view.WordExact) (hd : dst.view.WordExact) : P F PUnit :=
  Prog.lift (.enqueueDma src (.here dst) (.dma sem) hs hd ⟨Or.inl rfl, trivial⟩)

/-- Wait for a copy inside the device. -/
def waitCopy {s : Shape} (src : Memref sig .tc .hbm s .f32) (dst : Memref sig .tc .vmem s .f32) (sem : DmaSem sig)
    (hs : src.view.WordExact) (hd : dst.view.WordExact) : P F PUnit :=
  Prog.lift (.waitDma2 sem src dst hs hd)

/-- A tile of `x` in the narrow type. -/
def castPay (v : Vec F S1x256x1024 .f32) : FVec F S1x256x1024 .bf16 :=
  shapeCast S1x256x1024 (truncf .bf16 (shapeCast S256x1024 v shapeCasts_S1x256x1024_S256x1024) bitsLt_bf16_f32) shapeCasts_S256x1024_S1x256x1024

/-- Convert row tile `q` of half `b` into slot `s`. -/
def castSlot (b : Fin 2) (q : Fin 4) (s : Fin 16) : P F PUnit := do
  let v : Vec F S1x256x1024 .f32 ← Prog.lift (.load xdM (xdR b q).toLoadRect (View.loadsAt_vmem h_S1x256x1024))
  let _ : Vec F S1x256x1024 .bf16 ← Prog.lift (.load xbM (xbR s).toLoadRect (View.loadsAt_vmem h_S1x256x1024))
  Prog.lift (.store xbM (xbR s) (castPay v) Finset.univ
    (View.stores_vmem h_S1x256x1024 ((Memref.isWhole_whole cc0_scratch1).storeExact_slice rfl _ (xb_packed s)) (fun _ => rfl)) (.inl rfl))

/-- Send slot `s` to the same slot of device `n`'s landing buffer. -/
def sendSlot (n : Dev nD) (s : Fin 12) : P F PUnit :=
  Prog.lift (.enqueueDma (xbV (up s)) (.remote (Dev.tc n) (rbV s) (.dma (sS s))) (.dma (rS s)) (xbV_exact (up s)) (rbV_exact s) ⟨⟨rfl, Or.inl rfl⟩, trivial⟩)

/-- Wait until the slot sent is read, and until the slot received is written. -/
def waitSlot (s : Fin 12) : P F PUnit := do
  Prog.lift (.waitDma2 (sS s) (rbV s) (xbV (up s)) (rbV_exact s) (xbV_exact (up s)))
  Prog.lift (.waitDma2 (rS s) (xbV (up s)) (rbV s) (xbV_exact (up s)) (rbV_exact s))

/-- A block of `w` in the narrow type. -/
def wPay (v : Vec F S1x1024x2048 .f32) : FVec F S1024x2048 .bf16 :=
  truncf .bf16 (shapeCast S1024x2048 v shapeCasts_S1x1024x2048_S1024x2048) bitsLt_bf16_f32

/-- Read half `b` of the buffer of `w`. -/
def loadW (b : Fin 2) : P F (Vec F S1x1024x2048 .f32) :=
  Prog.lift (.load wdM (wdR b).toLoadRect (View.loadsAt_vmem h_S1x1024x2048))

/-- One tile's product. -/
def mmPay (w : FVec F S1024x2048 .bf16) (x : Vec F S1x256x1024 .bf16) : FVec F S256x2048 .f32 :=
  matmul dot_S256x1024_S1024x2048_S256x2048_1_0_0_1_n_n none (shapeCast S256x1024 x shapeCasts_S1x256x1024_S256x1024) w (constant S256x2048 .f32 0x00000000#32)

/-- One tile's product added to what stood there. -/
def addPay (w : FVec F S1024x2048 .bf16) (x : Vec F S1x256x1024 .bf16) (o : Vec F S256x2048 .f32) : FVec F S256x2048 .f32 :=
  addf (shapeCast S256x2048 o shapeCasts_S256x2048_S256x2048) (mmPay w x)

/-- Read and write row tile `q` of the result. -/
def loadO (q : Fin 4) : P F (Vec F S256x2048 .f32) :=
  Prog.lift (.load oM (oR q).toLoadRect (View.loadsAt_vmem h_S256x2048))
def storeO (q : Fin 4) (v : FVec F S256x2048 .f32) : P F PUnit :=
  Prog.lift (.store oM (oR q) v Finset.univ (View.stores_vmem_bits_univ h_S256x2048 rfl) (.inl rfl))

/-- The first product of row tile `q`, from the device's own slot `s`. -/
def mmTile (w : FVec F S1024x2048 .bf16) (s : Fin 16) (q : Fin 4) : P F PUnit := do
  let x : Vec F S1x256x1024 .bf16 ← Prog.lift (.load xbM (xbR s).toLoadRect (View.loadsAt_vmem h_S1x256x1024))
  let _ ← loadO q
  storeO q (mmPay w x)

/-- A further product of row tile `q`, from the received slot `s`. -/
def addTile (w : FVec F S1024x2048 .bf16) (s : Fin 12) (q : Fin 4) : P F PUnit := do
  let x : Vec F S1x256x1024 .bf16 ← Prog.lift (.load rbM (rbR s).toLoadRect (View.loadsAt_vmem h_S1x256x1024))
  let o ← loadO q
  let _ ← loadO q
  storeO q (addPay w x o)

/-- The activation on row tile `q`. -/
def geluTile (q : Fin 4) : P F PUnit := do
  let o ← loadO q
  let _ ← loadO q
  storeO q (k0_pay1 o)

/-- The barrier, and the copies, conversions and sends: the first half of the kernel. -/
def exchange (c : Dev nD) : P F PUnit := do
  semSignalWord (⟨k0_dev1 c, k0_dev1_lt c⟩ : Dev nD) barS 1#32
  semSignalWord (⟨k0_dev2 c, k0_dev2_lt c⟩ : Dev nD) barS 1#32
  semSignalWord (⟨k0_dev3 c, k0_dev3_lt c⟩ : Dev nD) barS 1#32
  startCopy (xsrc1 c) xdst1 (xS 0) (View.wordExact_bits rfl) ((View.wordExact_bits rfl).reshape _ _)
  startCopy (xsrc2 c) xdst2 (xS 1) (View.wordExact_bits rfl) ((View.wordExact_bits rfl).reshape _ _)
  startCopy (xsrc (k0_off3 c 3#32) (k0_off3_inb c 1)) (xdst 1) (xS 2) (View.wordExact_bits rfl) ((View.wordExact_bits rfl).reshape _ _)
  semWaitWord barS 3#32
  waitCopy (xsrc1 c) xdst1 (xS 0) (View.wordExact_bits rfl) ((View.wordExact_bits rfl).reshape _ _)
  castSlot 0 0 0
  sendSlot ⟨k0_dev4 c, k0_dev4_lt c⟩ 0
  waitCopy (xsrc2 c) xdst2 (xS 1) (View.wordExact_bits rfl) ((View.wordExact_bits rfl).reshape _ _)
  castSlot 0 1 1
  sendSlot ⟨k0_dev5 c, k0_dev5_lt c⟩ 1
  castSlot 0 2 2
  sendSlot ⟨k0_dev6 c, k0_dev6_lt c⟩ 2
  castSlot 0 3 3
  sendSlot ⟨k0_dev7 c, k0_dev7_lt c⟩ 3
  startCopy (xsrc (k0_off3 c 2#32) (k0_off3_inb c 0)) (xdst 0) (xS 3) (View.wordExact_bits rfl) ((View.wordExact_bits rfl).reshape _ _)
  waitCopy (xsrc (k0_off3 c 3#32) (k0_off3_inb c 1)) (xdst 1) (xS 2) (View.wordExact_bits rfl) ((View.wordExact_bits rfl).reshape _ _)
  castSlot 1 0 4
  sendSlot ⟨k0_dev8 c, k0_dev8_lt c⟩ 4
  castSlot 1 1 5
  sendSlot ⟨k0_dev9 c, k0_dev9_lt c⟩ 5
  castSlot 1 2 6
  sendSlot ⟨k0_dev10 c, k0_dev10_lt c⟩ 6
  castSlot 1 3 7
  sendSlot ⟨k0_dev11 c, k0_dev11_lt c⟩ 7
  startCopy (xsrc (k0_off4 c) (k0_off4_inb c)) (xdst 1) (xS 4) (View.wordExact_bits rfl) ((View.wordExact_bits rfl).reshape _ _)
  waitCopy (xsrc (k0_off3 c 2#32) (k0_off3_inb c 0)) (xdst 0) (xS 3) (View.wordExact_bits rfl) ((View.wordExact_bits rfl).reshape _ _)
  castSlot 0 0 8
  sendSlot ⟨k0_dev12 c, k0_dev12_lt c⟩ 8
  castSlot 0 1 9
  sendSlot ⟨k0_dev13 c, k0_dev13_lt c⟩ 9
  castSlot 0 2 10
  sendSlot ⟨k0_dev14 c, k0_dev14_lt c⟩ 10
  castSlot 0 3 11
  sendSlot ⟨k0_dev15 c, k0_dev15_lt c⟩ 11
  waitCopy (xsrc (k0_off4 c) (k0_off4_inb c)) (xdst 1) (xS 4) (View.wordExact_bits rfl) ((View.wordExact_bits rfl).reshape _ _)
  castSlot 1 0 12
  castSlot 1 1 13
  castSlot 1 2 14
  castSlot 1 3 15

/-- The products, the sums and the activation: the second half of the kernel. -/
def products (c : Dev nD) : P F PUnit := do
  startCopy (wsrc (k0_off5 c) (k0_off5_inb c)) (wdst 0) (wS 0) (View.wordExact_bits rfl) ((View.wordExact_bits rfl).reshape _ _)
  startCopy (wsrc (k0_off6 c 3#32) (k0_off6_inb c 2)) (wdst 1) (wS 1) (View.wordExact_bits rfl) ((View.wordExact_bits rfl).reshape _ _)
  waitCopy (wsrc (k0_off5 c) (k0_off5_inb c)) (wdst 0) (wS 0) (View.wordExact_bits rfl) ((View.wordExact_bits rfl).reshape _ _)
  let w0 ← loadW 0
  startCopy (wsrc (k0_off6 c 1#32) (k0_off6_inb c 0)) (wdst 0) (wS 0) (View.wordExact_bits rfl) ((View.wordExact_bits rfl).reshape _ _)
  mmTile (wPay w0) 12 0
  mmTile (wPay w0) 13 1
  mmTile (wPay w0) 14 2
  mmTile (wPay w0) 15 3
  waitCopy (wsrc (k0_off6 c 3#32) (k0_off6_inb c 2)) (wdst 1) (wS 1) (View.wordExact_bits rfl) ((View.wordExact_bits rfl).reshape _ _)
  let w1 ← loadW 1
  startCopy (wsrc (k0_off6 c 2#32) (k0_off6_inb c 1)) (wdst 1) (wS 1) (View.wordExact_bits rfl) ((View.wordExact_bits rfl).reshape _ _)
  waitSlot 0
  addTile (wPay w1) 0 0
  waitSlot 1
  addTile (wPay w1) 1 1
  waitSlot 2
  addTile (wPay w1) 2 2
  waitSlot 3
  addTile (wPay w1) 3 3
  waitCopy (wsrc (k0_off6 c 1#32) (k0_off6_inb c 0)) (wdst 0) (wS 0) (View.wordExact_bits rfl) ((View.wordExact_bits rfl).reshape _ _)
  let w2 ← loadW 0
  waitSlot 4
  addTile (wPay w2) 4 0
  waitSlot 5
  addTile (wPay w2) 5 1
  waitSlot 6
  addTile (wPay w2) 6 2
  waitSlot 7
  addTile (wPay w2) 7 3
  waitCopy (wsrc (k0_off6 c 2#32) (k0_off6_inb c 1)) (wdst 1) (wS 1) (View.wordExact_bits rfl) ((View.wordExact_bits rfl).reshape _ _)
  let w3 ← loadW 1
  waitSlot 8
  addTile (wPay w3) 8 0
  geluTile 0
  waitSlot 9
  addTile (wPay w3) 9 1
  geluTile 1
  waitSlot 10
  addTile (wPay w3) 10 2
  geluTile 2
  waitSlot 11
  addTile (wPay w3) 11 3
  geluTile 3

/-- The kernel. -/
def plan : P F PUnit := do
  let c ← Prog.lift .deviceId
  exchange c
  products c

/-- The printed body of the kernel is the plan. -/
theorem body_eq :
    cc0_body (F := F) xM (Memref.isWhole_whole _) wM (Memref.isWhole_whole _) oM (Memref.isWhole_whole _) xdM (Memref.isWhole_whole _)
      xbM (Memref.isWhole_whole _) wdM (Memref.isWhole_whole _) rbM (Memref.isWhole_whole _) cc0_scratch4 cc0_scratch5 cc0_scratch6 cc0_scratch7
      = plan := by
  rw [cc0_body_eq_skeleton]
  rfl

end Cert.A2A

end
-- ==== Proof.Tables.lean ====
/-
# What every buffer holds

Closed forms, over natural-number coordinates, of what each buffer of the kernel holds after each step: the block of
`x` copied in, the converted tiles, the tiles received, the block of `w`, and the row tile of the result after each
product. And the reads and writes of the steps computed on them.
-/
module

public import proofs.«01_k».proof.Proof.Plan
public import Idealize.ShloMosaic.Lib.ValueIdxCore
public import Idealize.ShloMosaic.Lib.ValueLayout
public import Idealize.ShloMosaic.Lib.Pipeline.Value

@[expose] public section

noncomputable section

namespace Cert.A2A

open Cert.KernelIdeal Cert.KernelIdeal.Gen
open Idealize.ShloMosaic Idealize.SL.Sem
open Idealize.ShloMosaic.TcCoe
open Idealize.ShloMosaic.ValueIdx

variable {F : FTy → Type} [FloatOps F]
variable (m : (ℓ : Loc nD τ sig) → Buf (Elt F) ℓ)

/-! ## The devices -/

/-- The device `n` places after `c`. -/
def rot (c : Dev nD) (n : ℕ) : Dev nD := ⟨(c.val + n) % 4, Nat.mod_lt _ (by decide)⟩

/-- Which block of its rows a device handles at step `k`: those of the device one, three and two places on, then its own. -/
def blk (c : Dev nD) (k : ℕ) : Dev nD := rot c (if k = 0 then 1 else if k = 1 then 3 else if k = 2 then 2 else 0)
/-- Whose step-`k` block a device receives. -/
def src (c : Dev nD) (k : ℕ) : Dev nD := rot c (if k = 0 then 3 else if k = 1 then 1 else 2)
/-- The order a device takes the blocks of the contraction in: its own, then those received. -/
def ord (c : Dev nD) (k : ℕ) : Dev nD := if k = 0 then c else src c (k - 1)

/-- The sender and the receiver of a step name each other. -/
theorem src_blk (c : Dev nD) (k : Fin 3) : src (blk c k) k = c := by revert c k; decide
theorem blk_src (c : Dev nD) (k : Fin 3) : blk (src c k) k = c := by revert c k; decide

/-! ## The contents -/

/-- A device's shard of `x`, and its copy of `w`, at a row and a column. -/
def xAt (c : Dev nD) (r j : ℕ) : F .f32 := m ((c : Thread nD τ).loc main_arg0) (ix2 (n0 := 4096) (n1 := 1024) (Fin.ofNat 4096 r) (Fin.ofNat 1024 j))
def wAt (c : Dev nD) (r j : ℕ) : F .f32 := m ((c : Thread nD τ).loc main_arg1) (ix2 (n0 := 4096) (n1 := 2048) (Fin.ofNat 4096 r) (Fin.ofNat 2048 j))

/-- Row `a`, column `b` of the tile in slot `s` of a device's converted tiles. -/
def xbAt (c : Dev nD) (s a b : ℕ) : F .bf16 :=
  FloatOps.truncf .bf16 bitsLt_bf16_f32 (xAt m c ((blk c (s / 4)).val * 1024 + 256 * (s % 4) + a) b)

/-- The buffer `x` is copied into, at step `k`. -/
def XD (c : Dev nD) (k : ℕ) : S2x1024x1024.Idx → F .f32 := fun i => xAt m c ((blk c k).val * 1024 + (i 1).val) (i 2).val
/-- The converted tiles. -/
def XB (c : Dev nD) : S16x256x1024.Idx → F .bf16 := fun i => xbAt m c (i 0).val (i 1).val (i 2).val
/-- The landing buffer. -/
def RB (c : Dev nD) : S12x256x1024.Idx → F .bf16 := fun i => xbAt m (src c ((i 0).val / 4)) (i 0).val (i 1).val (i 2).val
/-- The buffer `w` is copied into, at step `k`. -/
def WD (c : Dev nD) (k : ℕ) : S2x1024x2048.Idx → F .f32 := fun i => wAt m c ((ord c k).val * 1024 + (i 1).val) (i 2).val

/-- One tile of the converted tiles and of the landing buffer, one block of `w`, as the loads read them. -/
def xTile (c : Dev nD) (s : ℕ) : Vec F S1x256x1024 .bf16 := fun i => xbAt m c s (i 1).val (i 2).val
def wBlock (c : Dev nD) (k : ℕ) : Vec F S1x1024x2048 .f32 := fun i => wAt m c ((ord c k).val * 1024 + (i 1).val) (i 2).val

/-- Row tile `q` of the result after product `k`. -/
def tile (c : Dev nD) (q : ℕ) : ℕ → FVec F S256x2048 .f32
  | 0 => mmPay (wPay (wBlock m c 0)) (xTile m c (12 + q))
  | k + 1 => addPay (wPay (wBlock m c (k + 1))) (xTile m (src c k) (4 * k + q)) (tile c q k)

/-- A row tile laid out in the result buffer (at every row tile of it). -/
def lay (t : FVec F S256x2048 .f32) : S1024x2048.Idx → F .f32 := fun i => t (ix2 (n0 := 256) (n1 := 2048) (Fin.ofNat 256 (i 0).val) (Fin.ofNat 2048 (i 1).val))

/-- The kernel's result on device `c`. -/
def OUT (c : Dev nD) : S1024x2048.Idx → F .f32 := fun i => lay (k0_pay1 (tile m c ((i 0).val / 256) 3)) i

/-! ## The arguments by coordinates -/

/-- An index is that of its two coordinates. -/
theorem ix2_of {a b : ℕ} [NeZero a] [NeZero b] (i : (⟨2, ![a, b]⟩ : Shape).Idx) : ix2 (n0 := a) (n1 := b) (Fin.ofNat a (i 0).val) (Fin.ofNat b (i 1).val) = i := by
  rw [eq_ix2 i]
  congr 1 <;> exact Fin.ext (Nat.mod_eq_of_lt (Fin.isLt _))

/-- The arguments at an index are `xAt` and `wAt` of its coordinates. -/
theorem x_eq (c : Dev nD) (i : S4096x1024.Idx) : m ((c : Thread nD τ).loc main_arg0) i = xAt m c (i 0).val (i 1).val := by
  unfold xAt; exact congrArg _ (ix2_of (a := 4096) (b := 1024) i).symm
theorem w_eq (c : Dev nD) (i : S4096x2048.Idx) : m ((c : Thread nD τ).loc main_arg1) i = wAt m c (i 0).val (i 1).val := by
  unfold wAt; exact congrArg _ (ix2_of (a := 4096) (b := 2048) i).symm

/-! ## The reads and writes -/

/-- A tile, a slot, a block or a row tile, read out of its buffer's contents. -/
theorem read_xd (c : Dev nD) (k : ℕ) (b : Fin 2) (q : Fin 4) :
    (xdM.view.readAt (Elt F) (xdR b q).toLoadRect (XD m c k) : Vec F S1x256x1024 .f32)
      = fun y => xAt m c ((blk c k).val * 1024 + (256 * q.val + (y 1).val)) (y 2).val := by
  funext y
  show xAt m c ((blk c k).val * 1024 + (256 * q.val + 1 * (y 1).val)) (0 + 1 * (y 2).val) = _
  rw [one_mul, one_mul, Nat.zero_add]

theorem read_xb (c : Dev nD) (s : Fin 16) :
    (xbM.view.readAt (Elt F) (xbR s).toLoadRect (XB m c) : Vec F S1x256x1024 .bf16) = xTile m c s.val := by
  funext y
  show xbAt m c (s.val + 1 * (y 0).val) (0 + 1 * (y 1).val) (0 + 1 * (y 2).val) = xbAt m c s.val (y 1).val (y 2).val
  have h : (y 0).val = 0 := Nat.lt_one_iff.mp (y 0).isLt
  rw [h]; simp only [one_mul, Nat.mul_zero, Nat.add_zero, Nat.zero_add]

theorem read_rb (c : Dev nD) (s : Fin 12) :
    (rbM.view.readAt (Elt F) (rbR s).toLoadRect (RB m c) : Vec F S1x256x1024 .bf16) = xTile m (src c (s.val / 4)) s.val := by
  funext y
  show xbAt m (src c ((s.val + 1 * (y 0).val) / 4)) (s.val + 1 * (y 0).val) (0 + 1 * (y 1).val) (0 + 1 * (y 2).val) = xbAt m (src c (s.val / 4)) s.val (y 1).val (y 2).val
  have h : (y 0).val = 0 := Nat.lt_one_iff.mp (y 0).isLt
  rw [h]; simp only [one_mul, Nat.mul_zero, Nat.add_zero, Nat.zero_add]

theorem read_wd (c : Dev nD) (k : ℕ) (b : Fin 2) :
    (wdM.view.readAt (Elt F) (wdR b).toLoadRect (WD m c k) : Vec F S1x1024x2048 .f32) = wBlock m c k := by
  funext y
  show wAt m c ((ord c k).val * 1024 + (0 + 1 * (y 1).val)) (0 + 1 * (y 2).val) = wAt m c ((ord c k).val * 1024 + (y 1).val) (y 2).val
  rw [one_mul, one_mul, Nat.zero_add, Nat.zero_add]

omit [FloatOps F] in
theorem read_o (q : Fin 4) (t : FVec F S256x2048 .f32) :
    (oM.view.readAt (Elt F) (oR q).toLoadRect (lay t) : Vec F S256x2048 .f32) = t := by
  funext y
  show t (ix2 (n0 := 256) (n1 := 2048) (Fin.ofNat 256 (256 * q.val + 1 * (y 0).val)) (Fin.ofNat 2048 (0 + 1 * (y 1).val))) = t y
  congr 1
  rw [eq_ix2 y]
  congr 1
  · refine Fin.ext ?_
    show (256 * q.val + 1 * (y 0).val) % 256 = (y 0).val
    have := idx2_lt0 (n0 := 256) (n1 := 2048) y
    omega
  · refine Fin.ext ?_
    show (0 + 1 * (y 1).val) % 2048 = (y 1).val
    have := idx2_lt1 (n0 := 256) (n1 := 2048) y
    omega

/-- A write through a view of a whole rectangle: on the rectangle the contents are what was written. -/
theorem write_on {sp : Space} {s : Shape} {e : EltTy} (v : View sig .tc sp s e) (f g : v.ty.Contents (Elt F)) (w : s.Idx → Elt F e)
    (h : ∀ x, g (v.emb x) = _root_.cast (congrArg (Elt F) v.elt_eq.symm) (w x)) : ∀ i ∈ v.set, v.write (Elt F) f w Finset.univ i = g i := by
  intro i hi
  obtain ⟨x, rfl⟩ := Idealize.ShloMosaic.View.exists_emb_of_mem_set v hi
  rw [View.write_emb_of_mem (h := Finset.mem_univ x), h]

/-- The tile of `x` read, in the narrow type, is the slot's. -/
theorem cast_eq (c : Dev nD) (k : ℕ) (q : Fin 4) (s : Fin 16) (hs : s.val = 4 * k + q.val) :
    castPay (F := F) (fun y => xAt m c ((blk c k).val * 1024 + (256 * q.val + (y 1).val)) (y 2).val) = xTile m c s.val := by
  funext y
  obtain ⟨u, v, rfl⟩ : ∃ u : Fin 256, ∃ v : Fin 1024, y = ix3 (⟨0, Nat.one_pos⟩ : Fin 1) u v :=
    ⟨y 1, y 2, by rw [eq_ix3 (n0 := 1) (n1 := 256) (n2 := 1024) y]; congr 1; exact Fin.ext (Nat.lt_one_iff.mp (y 0).isLt)⟩
  have h4 : s.val / 4 = k ∧ s.val % 4 = q.val := by omega
  unfold castPay xTile xbAt
  rw [shapeCast_apply _ shapeCasts_S256x1024_S1x256x1024 _ (ix2 u v) (by
    rw [Shape.rowMajor_val_three, Shape.rowMajor_val_two]
    show u.val * 1024 + v.val = (0 * 256 + u.val) * 1024 + v.val
    rw [Nat.zero_mul, Nat.zero_add])]
  show FloatOps.truncf .bf16 bitsLt_bf16_f32 (shapeCast S256x1024 _ shapeCasts_S1x256x1024_S256x1024 (ix2 u v)) = _
  rw [shapeCast_apply _ shapeCasts_S1x256x1024_S256x1024 _ (ix3 (⟨0, Nat.one_pos⟩ : Fin 1) u v) (by
    rw [Shape.rowMajor_val_three, Shape.rowMajor_val_two]
    show (0 * 256 + u.val) * 1024 + v.val = u.val * 1024 + v.val
    rw [Nat.zero_mul, Nat.zero_add])]
  rw [h4.1, h4.2, Nat.add_assoc]

/-- A tile written into its slot leaves the slot's contents there; -/
theorem write_xb (c : Dev nD) (s : Fin 16) (f : S16x256x1024.Idx → F .bf16) :
    ∀ i ∈ (xbR s).set, ((xbM.access (xbR s)).write (Elt F) f (xTile m c s.val) Finset.univ : S16x256x1024.Idx → F .bf16) i = XB m c i := by
  rw [← View.set_slice_whole cc0_scratch1 (xbR s)]
  refine write_on (xbM.access (xbR s)) f (XB m c) (xTile m c s.val) fun y => ?_
  exact congrFun (read_xb m c s) y

/-- a row tile written into the result leaves it there. -/
theorem write_o (q : Fin 4) (t : FVec F S256x2048 .f32) (f : S1024x2048.Idx → F .f32) :
    ∀ i ∈ (oR q).set, ((oM.access (oR q)).write (Elt F) f t Finset.univ : S1024x2048.Idx → F .f32) i = lay t i := by
  rw [← View.set_slice_whole cc0_stg0_0 (oR q)]
  refine write_on (oM.access (oR q)) f (lay t) t fun y => ?_
  exact congrFun (read_o q t) y

/-! ## The offsets and devices the kernel computes -/

/-- The printed row offsets of the copies of `x` and `w`, in closed form. -/
theorem off1_eq : ∀ c : Dev nD, k0_off1 c 0 = (blk c 0).val * 1024 ∧ k0_off1 c 1 = 0 := by decide +kernel
theorem off2_eq : ∀ c : Dev nD, k0_off2 c 0 = (blk c 0).val * 1024 + 256 ∧ k0_off2 c 1 = 0 := by decide +kernel
theorem off3_eq1 : ∀ c : Dev nD, k0_off3 c 3#32 0 = (blk c 1).val * 1024 ∧ k0_off3 c 3#32 1 = 0 := by decide +kernel
theorem off3_eq2 : ∀ c : Dev nD, k0_off3 c 2#32 0 = (blk c 2).val * 1024 ∧ k0_off3 c 2#32 1 = 0 := by decide +kernel
theorem off4_eq : ∀ c : Dev nD, k0_off4 c 0 = (blk c 3).val * 1024 ∧ k0_off4 c 1 = 0 := by decide +kernel
theorem off5_eq : ∀ c : Dev nD, k0_off5 c 0 = (ord c 0).val * 1024 ∧ k0_off5 c 1 = 0 := by decide +kernel
theorem off6_eq1 : ∀ c : Dev nD, k0_off6 c 3#32 0 = (ord c 1).val * 1024 ∧ k0_off6 c 3#32 1 = 0 := by decide +kernel
theorem off6_eq2 : ∀ c : Dev nD, k0_off6 c 1#32 0 = (ord c 2).val * 1024 ∧ k0_off6 c 1#32 1 = 0 := by decide +kernel
theorem off6_eq3 : ∀ c : Dev nD, k0_off6 c 2#32 0 = (ord c 3).val * 1024 ∧ k0_off6 c 2#32 1 = 0 := by decide +kernel

/-- The printed device numbers, of the signals and of the transfers, in closed form. -/
theorem dev1_eq (c : Dev nD) : (⟨k0_dev1 c, k0_dev1_lt c⟩ : Dev nD) = rot c 1 := by revert c; decide +kernel
theorem dev2_eq (c : Dev nD) : (⟨k0_dev2 c, k0_dev2_lt c⟩ : Dev nD) = rot c 2 := by revert c; decide +kernel
theorem dev3_eq (c : Dev nD) : (⟨k0_dev3 c, k0_dev3_lt c⟩ : Dev nD) = rot c 3 := by revert c; decide +kernel
theorem dev4_eq (c : Dev nD) : (⟨k0_dev4 c, k0_dev4_lt c⟩ : Dev nD) = blk c 0 := by revert c; decide +kernel
theorem dev5_eq (c : Dev nD) : (⟨k0_dev5 c, k0_dev5_lt c⟩ : Dev nD) = blk c 0 := by revert c; decide +kernel
theorem dev6_eq (c : Dev nD) : (⟨k0_dev6 c, k0_dev6_lt c⟩ : Dev nD) = blk c 0 := by revert c; decide +kernel
theorem dev7_eq (c : Dev nD) : (⟨k0_dev7 c, k0_dev7_lt c⟩ : Dev nD) = blk c 0 := by revert c; decide +kernel
theorem dev8_eq (c : Dev nD) : (⟨k0_dev8 c, k0_dev8_lt c⟩ : Dev nD) = blk c 1 := by revert c; decide +kernel
theorem dev9_eq (c : Dev nD) : (⟨k0_dev9 c, k0_dev9_lt c⟩ : Dev nD) = blk c 1 := by revert c; decide +kernel
theorem dev10_eq (c : Dev nD) : (⟨k0_dev10 c, k0_dev10_lt c⟩ : Dev nD) = blk c 1 := by revert c; decide +kernel
theorem dev11_eq (c : Dev nD) : (⟨k0_dev11 c, k0_dev11_lt c⟩ : Dev nD) = blk c 1 := by revert c; decide +kernel
theorem dev12_eq (c : Dev nD) : (⟨k0_dev12 c, k0_dev12_lt c⟩ : Dev nD) = blk c 2 := by revert c; decide +kernel
theorem dev13_eq (c : Dev nD) : (⟨k0_dev13 c, k0_dev13_lt c⟩ : Dev nD) = blk c 2 := by revert c; decide +kernel
theorem dev14_eq (c : Dev nD) : (⟨k0_dev14 c, k0_dev14_lt c⟩ : Dev nD) = blk c 2 := by revert c; decide +kernel
theorem dev15_eq (c : Dev nD) : (⟨k0_dev15 c, k0_dev15_lt c⟩ : Dev nD) = blk c 2 := by revert c; decide +kernel

/-! ## What a copy lands -/

/-- An index of rank two is a pair. -/
theorem idx_cases {a b : ℕ} (y : (⟨2, ![a, b]⟩ : Shape).Idx) : ∃ u : Fin a, ∃ v : Fin b, y = ix2 u v := ⟨y 0, y 1, eq_ix2 y⟩

/-- The block `blk c k` of `x` (its rows from `o` on) copied to rows from `o` on of a half of the buffer. -/
theorem land_x1 (c : Dev nD) (k : ℕ) (h0 : k0_off1 c 0 = (blk c k).val * 1024) (h1 : k0_off1 c 1 = 0) (f : S2x1024x1024.Idx → F .f32) :
    ∀ i ∈ xdst1.view.set, (xdst1.view.write (Elt F) f ((xsrc1 c).view.read (Elt F) (m ((c : Thread nD τ).loc main_arg0))) Finset.univ
      : S2x1024x1024.Idx → F .f32) i = XD m c k i := by
  refine write_on xdst1.view f (XD m c k) _ fun y => ?_
  obtain ⟨u, v, rfl⟩ := idx_cases y
  show XD m c k ((xdR 0 0).emb (Shape.reshapeEquiv _ (ix2 u v))) = m ((c : Thread nD τ).loc main_arg0) ((Rect.unit (s := S4096x1024) (k0_off1 c) S256x1024.size (k0_off1_inb c)).emb (ix2 u v))
  rw [reshapeEquiv_ix2_1ab, x_eq m c]
  show xAt m c ((blk c k).val * 1024 + (0 + 1 * u.val)) (0 + 1 * v.val) = xAt m c (k0_off1 c 0 + 1 * u.val) (k0_off1 c 1 + 1 * v.val)
  rw [h0, h1, Nat.zero_add, Nat.zero_add]

/-- The same for the rest of the first block, -/
theorem land_x2 (c : Dev nD) (k : ℕ) (h0 : k0_off2 c 0 = (blk c k).val * 1024 + 256) (h1 : k0_off2 c 1 = 0) (f : S2x1024x1024.Idx → F .f32) :
    ∀ i ∈ xdst2.view.set, (xdst2.view.write (Elt F) f ((xsrc2 c).view.read (Elt F) (m ((c : Thread nD τ).loc main_arg0))) Finset.univ
      : S2x1024x1024.Idx → F .f32) i = XD m c k i := by
  refine write_on xdst2.view f (XD m c k) _ fun y => ?_
  obtain ⟨u, v, rfl⟩ := idx_cases y
  show XD m c k (xdR2.emb (Shape.reshapeEquiv _ (ix2 u v))) = m ((c : Thread nD τ).loc main_arg0) ((Rect.unit (s := S4096x1024) (k0_off2 c) S768x1024.size (k0_off2_inb c)).emb (ix2 u v))
  rw [reshapeEquiv_ix2_1ab, x_eq m c]
  show xAt m c ((blk c k).val * 1024 + (256 + 1 * u.val)) (0 + 1 * v.val) = xAt m c (k0_off2 c 0 + 1 * u.val) (k0_off2 c 1 + 1 * v.val)
  rw [h0, h1, Nat.zero_add, Nat.add_assoc]

/-- for a later block of `x`, -/
theorem land_x (c : Dev nD) (k : ℕ) (b : Fin 2) (off : Fin 2 → ℕ) (hin : ∀ a, off a + S1024x1024.size a ≤ S4096x1024.size a)
    (h0 : off 0 = (blk c k).val * 1024) (h1 : off 1 = 0) (f : S2x1024x1024.Idx → F .f32) :
    ∀ i ∈ (xdst b).view.set, ((xdst b).view.write (Elt F) f ((xsrc off hin).view.read (Elt F) (m ((c : Thread nD τ).loc main_arg0))) Finset.univ
      : S2x1024x1024.Idx → F .f32) i = XD m c k i := by
  refine write_on (xdst b).view f (XD m c k) _ fun y => ?_
  obtain ⟨u, v, rfl⟩ := idx_cases y
  show XD m c k ((xdH b).emb (Shape.reshapeEquiv _ (ix2 u v))) = m ((c : Thread nD τ).loc main_arg0) ((Rect.unit (s := S4096x1024) off S1024x1024.size hin).emb (ix2 u v))
  rw [reshapeEquiv_ix2_1ab, x_eq m c]
  show xAt m c ((blk c k).val * 1024 + (0 + 1 * u.val)) (0 + 1 * v.val) = xAt m c (off 0 + 1 * u.val) (off 1 + 1 * v.val)
  rw [h0, h1, Nat.zero_add, Nat.zero_add]

/-- The block `ord c k` of `w` copied to half `b` of its buffer. -/
theorem land_w (c : Dev nD) (k : ℕ) (b : Fin 2) (off : Fin 2 → ℕ) (hin : ∀ a, off a + S1024x2048.size a ≤ S4096x2048.size a)
    (h0 : off 0 = (ord c k).val * 1024) (h1 : off 1 = 0) (f : S2x1024x2048.Idx → F .f32) :
    ∀ i ∈ (wdst b).view.set, ((wdst b).view.write (Elt F) f ((wsrc off hin).view.read (Elt F) (m ((c : Thread nD τ).loc main_arg1))) Finset.univ
      : S2x1024x2048.Idx → F .f32) i = WD m c k i := by
  refine write_on (wdst b).view f (WD m c k) _ fun y => ?_
  obtain ⟨u, v, rfl⟩ := idx_cases y
  show WD m c k ((wdR b).emb (Shape.reshapeEquiv _ (ix2 u v))) = m ((c : Thread nD τ).loc main_arg1) ((Rect.unit (s := S4096x2048) off S1024x2048.size hin).emb (ix2 u v))
  rw [reshapeEquiv_ix2_1ab, w_eq m c]
  show wAt m c ((ord c k).val * 1024 + (0 + 1 * u.val)) (0 + 1 * v.val) = wAt m c (off 0 + 1 * u.val) (off 1 + 1 * v.val)
  rw [h0, h1, Nat.zero_add, Nat.zero_add]

/-- Slot `s` of device `c`'s converted tiles sent to the device whose landing buffer's slot `s` it is. -/
theorem land_slot (c : Dev nD) (s : Fin 12) (f : S12x256x1024.Idx → F .bf16) :
    ∀ i ∈ (rbV s).view.set, ((rbV s).view.write (Elt F) f ((xbV (up s)).view.read (Elt F) (XB m c)) Finset.univ
      : S12x256x1024.Idx → F .bf16) i = RB m (blk c (s.val / 4)) i := by
  refine write_on (rbV s).view f (RB m (blk c (s.val / 4))) _ fun y => ?_
  obtain ⟨u, v, rfl⟩ := idx_cases y
  show RB m (blk c (s.val / 4)) ((rbR s).emb (Shape.reshapeEquiv _ (ix2 u v))) = XB m c ((xbR (up s)).emb (Shape.reshapeEquiv _ (ix2 u v)))
  rw [reshapeEquiv_ix2_1ab]
  show xbAt m (src (blk c (s.val / 4)) ((s.val + 1 * 0) / 4)) (s.val + 1 * 0) _ _ = xbAt m c (s.val + 1 * 0) _ _
  rw [Nat.mul_zero, Nat.add_zero, src_blk c (⟨s.val / 4, by omega⟩ : Fin 3)]
  rfl

end Cert.A2A

end
-- ==== Proof.Protocol.lean ====
/-
# The protocol between the devices

Every device has twenty-five cells that other devices' operations reach: its barrier semaphore, and for each of the
twelve transfers the semaphore that counts the tile as sent and the one that counts it as received. Each cell has one
round. The barrier's round is paid by the three other devices, each handing over the four slots of ITS landing buffer
that the waiting device writes. A send cell's round is paid by the transfer once the slot it reads is read, handing that
slot back; a receive cell's by the transfer once the tile is written, handing the landed tile.

The waits are safe by levels: a device waits for its local copies (level 0) and for its barrier (level 1) while it still
owes tiles (level 2), and for tiles only when it owes nothing.
-/
module

public import proofs.«01_k».proof.Proof.Tables
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)

/-! ## The ghost state -/

/-- What a cell's round is paid by: the three neighbours at the barrier, one transfer at a send or a receive cell. -/
abbrev D : Type := Fin 3 ⊕ Fin 12 ⊕ Fin 12
/-- A device's cells: the barrier, the send cells, the receive cells. -/
abbrev CI : Type := Unit ⊕ Fin 12 ⊕ Fin 12

@[match_pattern] abbrev dBar (i : Fin 3) : D := .inl i
@[match_pattern] abbrev dSnd (s : Fin 12) : D := .inr (.inl s)
@[match_pattern] abbrev dRcv (s : Fin 12) : D := .inr (.inr s)
@[match_pattern] abbrev kBar : CI := .inl ()
@[match_pattern] abbrev kSnd (s : Fin 12) : CI := .inr (.inl s)
@[match_pattern] abbrev kRcv (s : Fin 12) : CI := .inr (.inr s)

/-- The protocol's ghost state, and all of it together. -/
abbrev UB : Type := URounds (GSem nD τ sig) D
abbrev UU : Type := UR sig nD τ × (UB × Counters)

local notation "𝕄" => MT nD τ sig Unit (Elt F) ℕ UU ℕ

/-- Where the pipeline's, the protocol's and the local copies' ghost state live. -/
abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
abbrev EC : UEmb Counters (MT nD τ sig Unit (Elt F) ℕ UU ℕ) := countersEmb

/-! ## The cells -/

/-- The semaphore of each kind of cell, all different. -/
def csem : CI → SemLoc sig
  | kBar => .reg barS
  | kSnd s => .dma (sS s)
  | kRcv s => .dma (rS s)

theorem csem_inj : ∀ a b : CI, csem a = csem b → a = b := by decide

/-- The cells of device `c`. -/
abbrev cell (c : Dev nD) (k : CI) : GSem nD τ sig := ((c : Thread nD τ), csem k)
abbrev barCell (c : Dev nD) : GSem nD τ sig := ((c : Thread nD τ), .reg barS)
abbrev sndCell (c : Dev nD) (s : Fin 12) : GSem nD τ sig := ((c : Thread nD τ), .dma (sS s))
abbrev rcvCell (c : Dev nD) (s : Fin 12) : GSem nD τ sig := ((c : Thread nD τ), .dma (rS s))

/-- Which cell of its device a duty is of. -/
def at_ : D → CI
  | dBar _ => kBar
  | dSnd s => kSnd s
  | dRcv s => kRcv s

/-- The credit of one tile. -/
abbrev N : ℕ := (rbV 0).view.dmaCredit
/-- It is not zero. -/
theorem N_pos : 0 < N := View.dmaCredit_pos _ (by decide)

/-! ## The slots -/

/-- Slot `s` of the converted tiles, of the landing buffer, and row tile `q` of the result. -/
def xbP (c : Dev nD) (s : Fin 16) (f : S16x256x1024.Idx → F .bf16) : sProp 𝕄 :=
  xbM.view.loc (c : Thread nD τ) ↦[(xbR s).set]{fullShare} f
/-- The same of the landing buffer, -/
def rbP (c : Dev nD) (s : Fin 12) (f : S12x256x1024.Idx → F .bf16) : sProp 𝕄 :=
  rbM.view.loc (c : Thread nD τ) ↦[(rbR s).set]{fullShare} f
/-- and of the result. -/
def oP (c : Dev nD) (q : Fin 4) (f : S1024x2048.Idx → F .f32) : sProp 𝕄 :=
  oM.view.loc (c : Thread nD τ) ↦[(oR q).set]{fullShare} f

/-- Slots may be kept in an invariant. -/
instance xbP_storable (c : Dev nD) (s : Fin 16) (f) : BI.Storable (upEmb : UEmb _ 𝕄) (xbP (F := F) c s f) := by unfold xbP; infer_instance
instance rbP_storable (c : Dev nD) (s : Fin 12) (f) : BI.Storable (upEmb : UEmb _ 𝕄) (rbP (F := F) c s f) := by unfold rbP; infer_instance

/-- A slot as a transfer names it is that part of the buffer, -/
theorem xbV_set (s : Fin 16) : (xbV s).view.set = (xbR s).set := (View.set_reshape _ _).trans (View.set_slice_whole _ _)
theorem rbV_set (s : Fin 12) : (rbV s).view.set = (rbR s).set := (View.set_reshape _ _).trans (View.set_slice_whole _ _)

/-- and holding it is holding that part. -/
theorem xbP_eq (c : Dev nD) (s : Fin 16) (f : S16x256x1024.Idx → F .bf16) :
    xbP c s f = ((xbV s).view.loc (c : Thread nD τ) ↦[(xbV s).view.set]{fullShare} f : sProp 𝕄) := by
  rw [xbV_set]; rfl
theorem rbP_eq (c : Dev nD) (s : Fin 12) (f : S12x256x1024.Idx → F .bf16) :
    rbP c s f = ((rbV s).view.loc (c : Thread nD τ) ↦[(rbV s).view.set]{fullShare} f : sProp 𝕄) := by
  rw [rbV_set]; rfl

/-- The device transfer `s` of device `c` goes to. -/
abbrev peer (c : Dev nD) (s : Fin 12) : Dev nD := blk c (s.val / 4)

/-- The transfer of row tile `q` at step `i`. -/
abbrev sl (i : Fin 3) (q : Fin 4) : Fin 12 := ⟨4 * i.val + q.val, by have := i.isLt; have := q.isLt; omega⟩

/-! ## The payloads -/

/-- Device `c` may write slot `s` of its peer. -/
def slotFree (c : Dev nD) (s : Fin 12) : sProp 𝕄 :=
  iprop((∃ f, rbP (peer c s) s f) ∗ reached ER (rcvCell (peer c s) s) 0)
/-- What the `i`-th peer of `c` hands it at the barrier. -/
def barPay (c : Dev nD) (i : Fin 3) : sProp 𝕄 :=
  iprop(slotFree c (sl i 0) ∗ slotFree c (sl i 1) ∗ slotFree c (sl i 2) ∗ slotFree c (sl i 3))

/-- All these payloads may be kept in an invariant. -/
instance slotFree_storable (c : Dev nD) (s : Fin 12) : BI.Storable (upEmb : UEmb _ 𝕄) (slotFree (F := F) c s) := by unfold slotFree; infer_instance
instance barPay_storable (c : Dev nD) (i : Fin 3) : BI.Storable (upEmb : UEmb _ 𝕄) (barPay (F := F) c i) := by unfold barPay; infer_instance

/-- What a duty of a cell of device `c` hands. -/
def pay (c : Dev nD) : D → sProp 𝕄
  | dBar i => barPay c i
  | dSnd s => xbP c (up s) (XB m c)
  | dRcv s => rbP c s (RB m c)

instance pay_storable (c : Dev nD) (d : D) : BI.Storable (upEmb : UEmb _ 𝕄) (pay (F := F) m c d) := by
  rcases d with i | s | s <;> (unfold pay; infer_instance)

/-- How many units a duty pays: one at the barrier, a tile's credit for a transfer. -/
def amt : D → ℕ
  | dBar _ => 1
  | dSnd _ => N
  | dRcv _ => N

theorem amt_pos (d : D) : 0 < amt d := by
  rcases d with i | s | s
  · exact Nat.one_pos
  · exact N_pos
  · exact N_pos

/-- One round per cell, paid by the cell's duties. -/
def Rd : Rounds.Schedule (GSem nD τ sig) D 𝕄 where
  duties g r := if r = 0 ∧ g.1.2 = .tc then Finset.univ.filter (fun d => csem (at_ d) = g.2) else ∅
  unitless _ := False
  amount _ _ d := amt d
  payload g _ d := pay m g.1.1 d
  amount_pos _ _ d _ := amt_pos d

instance Rd_payload_storable (g : GSem nD τ sig) (r : ℕ) (d : D) : BI.Storable (upEmb : UEmb _ 𝕄) ((Rd (F := F) m).payload g r d) :=
  pay_storable m g.1.1 d

/-- The duties of each cell's one round, -/
theorem duties_cell (c : Dev nD) (k : CI) : (Rd (F := F) m).duties (cell c k) 0 = Finset.univ.filter (fun d => at_ d = k) := by
  dsimp only [Rd]
  rw [if_pos ⟨rfl, rfl⟩]
  exact Finset.filter_congr fun d _ => ⟨csem_inj _ _, fun h => congrArg csem h⟩

/-- and none later. -/
theorem duties_later (g : GSem nD τ sig) : ∀ r, 1 ≤ r → (Rd (F := F) m).duties g r = ∅ :=
  fun r hr => by dsimp only [Rd]; exact if_neg fun h => by omega

theorem mem_duties (c : Dev nD) (d : D) : d ∈ (Rd (F := F) m).duties (cell c (at_ d)) 0 := by
  rw [duties_cell]; exact Finset.mem_filter.mpr ⟨Finset.mem_univ _, rfl⟩

/-- The same, cell by cell. -/
theorem duties_bar (c : Dev nD) : (Rd (F := F) m).duties (barCell c) 0 = {dBar 0, dBar 1, dBar 2} :=
  (duties_cell m c kBar).trans (by decide)
theorem duties_snd (c : Dev nD) (s : Fin 12) : (Rd (F := F) m).duties (sndCell c s) 0 = {dSnd s} :=
  (duties_cell m c (kSnd s)).trans (by revert s; decide)
theorem duties_rcv (c : Dev nD) (s : Fin 12) : (Rd (F := F) m).duties (rcvCell c s) 0 = {dRcv s} :=
  (duties_cell m c (kRcv s)).trans (by revert s; decide)

/-- What a round comes to: three signals, or one tile. -/
theorem expect_bar (c : Dev nD) : (Rd (F := F) m).expect (barCell c) 0 = 3 := by
  unfold Schedule.expect Schedule.amountOf; rw [duties_bar]; rfl
theorem expect_snd (c : Dev nD) (s : Fin 12) : (Rd (F := F) m).expect (sndCell c s) 0 = N := by
  unfold Schedule.expect Schedule.amountOf; rw [duties_snd, Finset.sum_singleton]; rfl
theorem expect_rcv (c : Dev nD) (s : Fin 12) : (Rd (F := F) m).expect (rcvCell c s) 0 = N := by
  unfold Schedule.expect Schedule.amountOf; rw [duties_rcv, Finset.sum_singleton]; rfl

/-- Every slot's credit is one tile's. -/
theorem amount_rb (s : Fin 12) (q : DmaSem sig) : (rbV s).view.amount (.dma q) = N := rfl
theorem credit_xb (s : Fin 16) : (xbV s).view.dmaCredit = N := rfl
theorem credit_rb (s : Fin 12) : (rbV s).view.dmaCredit = N := rfl

/-- The payload of each duty, cell by cell. -/
theorem pay_bar (c : Dev nD) (i : Fin 3) : (Rd (F := F) m).payload (barCell c) 0 (dBar i) = barPay c i := rfl
theorem pay_snd (c : Dev nD) (s : Fin 12) : (Rd (F := F) m).payload (sndCell c s) 0 (dSnd s) = xbP c (up s) (XB m c) := rfl
theorem pay_rcv (c : Dev nD) (s : Fin 12) : (Rd (F := F) m).payload (rcvCell c s) 0 (dRcv s) = rbP c s (RB m c) := rfl

/-- What a whole round hands: the three peers' slots, the slot sent, the tile received. -/
theorem rest_bar (c : Dev nD) : bigSep ((Rd (F := F) m).duties (barCell c) 0 \ ∅) (fun d => (Rd (F := F) m).payload (barCell c) 0 d)
    = iprop(barPay c 0 ∗ barPay c 1 ∗ barPay c 2) := by
  rw [Finset.sdiff_empty, bigSep_eq_bigSepL_of_eq [dBar 0, dBar 1, dBar 2] (by rw [duties_bar]; decide) (by decide), bigSepL_cons_cons, bigSepL_cons_cons,
    bigSepL_singleton]
  rfl
theorem rest_snd (c : Dev nD) (s : Fin 12) :
    bigSep ((Rd (F := F) m).duties (sndCell c s) 0 \ ∅) (fun d => (Rd (F := F) m).payload (sndCell c s) 0 d) = xbP c (up s) (XB m c) := by
  rw [Finset.sdiff_empty, duties_snd, bigSep_singleton]; rfl
theorem rest_rcv (c : Dev nD) (s : Fin 12) :
    bigSep ((Rd (F := F) m).duties (rcvCell c s) 0 \ ∅) (fun d => (Rd (F := F) m).payload (rcvCell c s) 0 d) = rbP c s (RB m c) := by
  rw [Finset.sdiff_empty, duties_rcv, bigSep_singleton]; rfl

/-! ## What a device owes, and the levels -/

/-- What device `c` owes while its last `j` transfers are still to start. -/
def owe (c : Dev nD) : ℕ → CellTallies nD τ sig Unit
  | 0 => 0
  | j + 1 => owe c j + tallyAt (rcvCell (peer c (Fin.ofNat 12 (11 - j))) (Fin.ofNat 12 (11 - j))) () N

/-- What it owes at launch: the twelve tiles and a signal to every other device. -/
def O₂ (c : Dev nD) : CellTallies nD τ sig Unit := owe c 12 + tallyAt (barCell (src c (0 : Fin 3).val)) () 1
def O₁ (c : Dev nD) : CellTallies nD τ sig Unit := O₂ c + tallyAt (barCell (src c (2 : Fin 3).val)) () 1
def O₀ (c : Dev nD) : CellTallies nD τ sig Unit := O₁ c + tallyAt (barCell (src c (1 : Fin 3).val)) () 1

/-- What is owed before the transfer of slot `s` is what is owed after it, and that tile. -/
theorem owe_succ (c : Dev nD) (s : Fin 12) : owe c (12 - s.val) = owe c (11 - s.val) + tallyAt (rcvCell (peer c s) s) () N := by
  obtain ⟨j, hj⟩ : ∃ j, 11 - s.val = j := ⟨_, rfl⟩
  have h12 : 12 - s.val = j + 1 := by have := s.isLt; omega
  have hs : Fin.ofNat 12 (11 - j) = s := Fin.ext (by show (11 - j) % 12 = s.val; have := s.isLt; omega)
  rw [hj, h12, owe, hs]

/-- Tiles and barrier signals are all a device ever owes; -/
def Late (O : CellTallies nD τ sig Unit) : Prop := ∀ g u, 0 < O g u → ∃ c : Dev nD, (∃ s, g = rcvCell c s) ∨ g = barCell c
/-- after its signals, tiles only. -/
def Later (O : CellTallies nD τ sig Unit) : Prop := ∀ g u, 0 < O g u → ∃ c : Dev nD, ∃ s, g = rcvCell c s

/-- Owing tiles only is owing tiles and signals only. -/
theorem Later.late {O : CellTallies nD τ sig Unit} (h : Later O) : Late O := fun g u hg => let ⟨c, hs⟩ := h g u hg; ⟨c, .inl hs⟩

/-- Where a debt and a single further one are positive, the debt is, or the cell is that of the further one. -/
theorem tally_pos {O : CellTallies nD τ sig Unit} {g₀ g : GSem nD τ sig} {n : ℕ} {u : Unit} (h : 0 < (O + tallyAt g₀ () n) g u) : 0 < O g u ∨ g = g₀ := by
  rw [Pi.add_apply, Finsupp.add_apply, tallyAt_apply] at h
  by_cases hg : g = g₀
  · exact .inr hg
  · rw [if_neg (fun h' => hg h'.1)] at h; exact .inl h

/-- The transfers still to start are tiles only; -/
theorem later_owe (c : Dev nD) : ∀ j, Later (owe c j)
  | 0 => fun g u h => absurd h (Nat.lt_irrefl 0)
  | j + 1 => fun g u h => by
    rcases tally_pos h with h | h
    · exact later_owe c j g u h
    · exact ⟨_, _, h⟩

/-- a signal more is still tiles and signals; -/
theorem late_bar {O : CellTallies nD τ sig Unit} (h : Late O) (c : Dev nD) : Late (O + tallyAt (barCell c) () 1) := fun g u hg => by
  rcases tally_pos hg with hg | hg
  · exact h g u hg
  · exact ⟨c, .inr hg⟩

/-- so is all that a device owes at launch. -/
theorem late_O₀ (c : Dev nD) : Late (O₀ c) := late_bar (late_bar (late_bar (later_owe c 12).late _) _) _

/-- Which cells have a level: the TensorCores'. -/
def L (g : GSem nD τ sig) : Finset Unit := if g.1.2 = .tc then {()} else ∅
/-- Local copies and send cells at 0, the barrier at 1, receive cells at 2. -/
def lv (g : GSem nD τ sig) (_ : Unit) : ℕ :=
  match g.2 with
  | .reg _ => 1
  | .dma s => if 20 ≤ s.val then 2 else 0

theorem L_of_ne (g : GSem nD τ sig) (h : g.1.2 ≠ .tc) : L g = ∅ := if_neg h
theorem L_tc (c : Dev nD) (sm : SemLoc sig) : L ((c : Thread nD τ), sm) = {()} := if_pos rfl

/-- The level of a receive cell. -/
theorem lv_rcv (c : Dev nD) (s : Fin 12) : lv (rcvCell c s) () = 2 := by
  have h : 20 ≤ (rS s).val := by revert s; decide
  exact if_pos h

/-- A device may wait for a local copy whatever it owes, -/
theorem mayWait_local (c : Dev nD) (q : DmaSem sig) (hq : q.val < 20) {O : CellTallies nD τ sig Unit} (hO : Late O) :
    (levAts L lv : sProp 𝕄) ⊢ MayWait (c : Thread nD τ) (.dma q) () O :=
  MayOwe.of_cut (L := L) (lev := lv) 0 (fun p hp => by rw [Finset.mem_singleton.mp hp, L_tc]; exact Finset.mem_singleton_self _)
    (fun g u hg => by obtain ⟨c', ⟨s, rfl⟩ | rfl⟩ := hO g u hg <;> exact Finset.mem_singleton_self _)
    (fun p hp => by
      rw [Finset.mem_singleton.mp hp]
      show (if 20 ≤ q.val then 2 else 0) ≤ 0
      rw [if_neg (by omega)])
    (fun g u hg => by
      obtain ⟨c', ⟨s, rfl⟩ | rfl⟩ := hO g u hg
      · rw [lv_rcv]; decide
      · exact Nat.one_pos)

/-- and for its barrier while it owes tiles only. -/
theorem mayWait_bar (c : Dev nD) {O : CellTallies nD τ sig Unit} (hO : Later O) :
    (levAts L lv : sProp 𝕄) ⊢ MayWait (c : Thread nD τ) (.reg barS) () O :=
  MayOwe.of_cut (L := L) (lev := lv) 1 (fun p hp => by rw [Finset.mem_singleton.mp hp, L_tc]; exact Finset.mem_singleton_self _)
    (fun g u hg => by obtain ⟨c', s, rfl⟩ := hO g u hg; exact Finset.mem_singleton_self _)
    (fun p hp => by rw [Finset.mem_singleton.mp hp]; exact Nat.le_refl 1)
    (fun g u hg => by obtain ⟨c', s, rfl⟩ := hO g u hg; rw [lv_rcv]; decide)

end Cert.A2A

end
-- ==== Proof.Steps.lean ====
/-
# The steps, one rule each

For every step of the plan, what it takes and what it gives back. Each rule is stated once, for every slot, row tile,
block and device; the whole kernel is then a chain of them (`Body`).
-/
module

public import proofs.«01_k».proof.Proof.Protocol

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)

local notation "𝕄" => MT nD τ sig Unit (Elt F) ℕ UU ℕ

/-- No variant is needed: the body has no loop. -/
abbrev 𝒱₀ : Variants := Variants.none

/-- Device `c` runs `p`, after which `Q`. -/
abbrev WP (c : Dev nD) {α : Type} (p : P F α) (Q : α → sProp 𝕄) : sProp 𝕄 :=
  wp frame (wpE (defs₀ (F := F)) 𝒱₀ (c : Thread nD τ) none) Set.univ p Q

/-- Device `c` owes `O`, whatever it has waited for. -/
def owesX (c : Dev nD) (O : CellTallies nD τ sig Unit) : sProp 𝕄 := iprop(∃ W, owes (c : Thread nD τ) O W)

/-- Part `S` of the buffer of `x`, and of the buffer of `w`. -/
def xdP (c : Dev nD) (S : Finset S2x1024x1024.Idx) (f : S2x1024x1024.Idx → F .f32) : sProp 𝕄 :=
  xdM.view.loc (c : Thread nD τ) ↦[S]{fullShare} f
/-- A half of the buffer of `w`. -/
def wdP (c : Dev nD) (S : Finset S2x1024x2048.Idx) (f : S2x1024x2048.Idx → F .f32) : sProp 𝕄 :=
  wdM.view.loc (c : Thread nD τ) ↦[S]{fullShare} f

variable {α : Type} {Q : α → sProp (MT nD τ sig Unit (Elt F) ℕ UU ℕ)}

/-! ## Local copies -/

/-- A local copy on its way: on landing, `dst` holds what was written over something, and the share of the source is back. -/
def Fly (c : Dev nD) {s : Shape} (src : Memref sig .tc .hbm s .f32) (dst : Memref sig .tc .vmem s .f32) (sem : DmaSem sig)
    (fs : Buf (Elt F) (src.view.loc (c : Thread nD τ))) : sProp 𝕄 :=
  iprop(∃ q fd, Transfers.Flight (EC (F := F)) (c : Thread nD τ) (.dma sem) () (dst.view.amount (.dma sem))
    iprop((dst.view.loc (c : Thread nD τ) ↦[dst.view.set]{fullShare} dst.view.write (Elt F) fd (src.view.read (Elt F) fs) Finset.univ)
      ∗ (src.view.loc (c : Thread nD τ) ↦[src.view.set]{q} fs)))

/-- Starting a copy takes a share of the source, the destination and the copy's semaphore at zero. -/
theorem wp_startCopy (c : Dev nD) {s : Shape} {src : Memref sig .tc .hbm s .f32} {dst : Memref sig .tc .vmem s .f32} {sem : DmaSem sig}
    {hs : src.view.WordExact} {hd : dst.view.WordExact} (hN : 0 < dst.view.amount (.dma sem)) {q : PosShare TreeShare}
    {fs : Buf (Elt F) (src.view.loc (c : Thread nD τ))} {fd : Buf (Elt F) (dst.view.loc (c : Thread nD τ))} {k : PUnit → P F α} :
    (src.view.loc (c : Thread nD τ) ↦{q} fs)
      ⊢ iprop((dst.view.loc (c : Thread nD τ) ↦[dst.view.set]{fullShare} fd) -∗ semVal ((c : Thread nD τ), .dma sem) 0
          -∗ (Fly c src dst sem fs -∗ WP c (k ⟨⟩) Q) -∗ WP c (startCopy src dst sem hs hd >>= k) Q) := by
  unfold startCopy
  simp only [Prog.lift, Prog.bind_op, Prog.bind_ret]
  iintro Hs Hd Hv Hk
  ihave Hs := (pointsTo_split_subset (q := q) (f := fs) (Finset.subset_univ src.view.set)).1 $$ Hs
  icases Hs with ⟨Hs, -⟩
  iapply (Transfers.wp_dmaLocal (EC (F := F)) 𝒱₀ (c : Thread nD τ) none () _ rfl hN (Finset.Subset.refl _)) $$ [Hs Hd Hv]
  · isplitl [Hs]; · iexact Hs
    isplitl [Hd]; · iexact Hd
    iexact Hv
  iintro Hf
  iapply Hk
  unfold Fly
  iexists q, fd
  iexact Hf

/-- Waiting for it gives the destination at any contents the landing agrees with, and the semaphore back. -/
theorem wp_waitCopy (c : Dev nD) {s : Shape} {src : Memref sig .tc .hbm s .f32} {dst : Memref sig .tc .vmem s .f32} {sem : DmaSem sig}
    {hs : src.view.WordExact} {hd : dst.view.WordExact} (hq : sem.val < 20) {O : CellTallies nD τ sig Unit} (hO : Late O)
    {fs : Buf (Elt F) (src.view.loc (c : Thread nD τ))} (g : Buf (Elt F) (dst.view.loc (c : Thread nD τ)))
    (h : ∀ fd, ∀ i ∈ dst.view.set, dst.view.write (Elt F) fd (src.view.read (Elt F) fs) Finset.univ i = g i) {k : PUnit → P F α} :
    (Fly c src dst sem fs : sProp 𝕄)
      ⊢ iprop(levAts L lv -∗ owesX c O
          -∗ (((dst.view.loc (c : Thread nD τ) ↦[dst.view.set]{fullShare} g) ∗ semVal ((c : Thread nD τ), .dma sem) 0 ∗ owesX c O) -∗ WP c (k ⟨⟩) Q)
          -∗ WP c (waitCopy src dst sem hs hd >>= k) Q) := by
  unfold waitCopy Fly owesX
  simp only [Prog.lift, Prog.bind_op, Prog.bind_ret]
  iintro ⟨%q, %fd, Hf⟩ #Hlev ⟨%W, HO⟩ Hk
  iapply (Transfers.wp_waitLocalO (EC (F := F)) 𝒱₀ (c : Thread nD τ) none () rfl) $$ [Hf HO]
  · isplitl [Hf]; · iexact Hf
    isplitl [HO]; · iexact HO
    iapply (mayWait_local c sem hq hO); iexact Hlev
  iintro ⟨⟨Hd, -⟩, Hv, HO⟩
  ihave Hd := (Entails.of_eq (pointsTo_congr (h fd))) $$ Hd
  iapply Hk
  isplitl [Hd]; · iexact Hd
  isplitl [Hv]; · iexact Hv
  iexists _; iexact HO

/-! ## Loads and stores of whole buffers' rectangles -/

/-- A part of a whole buffer, as a view, is that part. -/
theorem setOn_whole (b : Ref sig .tc) (X : Finset b.ty.shape.Idx) : (View.whole b : View sig .tc _ _ _).setOn X = X := Finset.map_refl

/-- A load's elements are the rectangle's, -/
theorem load_sub (b : Ref sig .tc) (r : Rect b.ty.shape) {S : Finset b.ty.shape.Idx} (h : r.set ⊆ S) :
    (View.whole b : View sig .tc _ _ _).setOn r.toLoadRect.set ⊆ S := by rw [setOn_whole]; exact h
/-- and so are a store's. -/
theorem store_sub (b : Ref sig .tc) (r : Rect b.ty.shape) {S : Finset b.ty.shape.Idx} (h : r.set ⊆ S) :
    ((View.whole b : View sig .tc _ _ _).slice r).setOn Finset.univ ⊆ S := by
  rw [View.setOn_univ, View.set_slice_whole]; exact h

/-! ## Converting a tile -/

/-- A tile read out of the buffer of `x`, in the narrow type, is the contents of its slot. -/
theorem cast_read (c : Dev nD) (i : ℕ) (b : Fin 2) (q : Fin 4) (s : Fin 16) (hs : s.val = 4 * i + q.val) :
    castPay (F := F) (xdM.view.readAt (Elt F) (xdR b q).toLoadRect (XD m c i)) = xTile m c s.val := by
  rw [read_xd m c i b q]; exact cast_eq m c i q s hs

/-- Converting row tile `q` of step `i`'s block fills slot `4 i + q`. -/
theorem wp_castSlot (c : Dev nD) (i : ℕ) (b : Fin 2) (q : Fin 4) (s : Fin 16) (hs : s.val = 4 * i + q.val) (S : Finset S2x1024x1024.Idx)
    (hS : (xdR b q).set ⊆ S) {k : PUnit → P F α} :
    (xdP c S (XD m c i) : sProp 𝕄)
      ⊢ iprop((∃ f, xbP c s f) -∗ ((xdP c S (XD m c i) ∗ xbP c s (XB m c)) -∗ WP c (k ⟨⟩) Q) -∗ WP c (castSlot b q s >>= k) Q) := by
  unfold castSlot xdP xbP
  simp only [Prog.lift, Prog.bind_op, Prog.bind_ret]
  iintro Hd ⟨%f, Hb⟩ Hk
  iapply (wp_load 𝒱₀ (c : Thread nD τ) none Set.univ (m := xdM) (load_sub cc0_scratch0 (xdR b q) hS)) $$ Hd
  iintro Hd
  iapply (wp_load 𝒱₀ (c : Thread nD τ) none Set.univ (m := xbM) (load_sub cc0_scratch1 (xbR s) (Finset.Subset.refl _))) $$ Hb
  iintro Hb
  rw [cast_read m c i b q s hs]
  iapply (wp_store 𝒱₀ (c : Thread nD τ) none Set.univ (m := xbM) (r := xbR s) (Mk := Finset.univ) (store_sub cc0_scratch1 (xbR s) (Finset.Subset.refl _))) $$ Hb
  iintro Hb
  ihave Hb := (Entails.of_eq (pointsTo_congr (write_xb m c s f))) $$ Hb
  iapply Hk
  isplitl [Hd]; · iexact Hd
  iexact Hb

/-! ## Products -/

/-- Reading a row tile of the result, -/
theorem wp_loadO (c : Dev nD) (q : Fin 4) (t : FVec F S256x2048 .f32) {k : Vec F S256x2048 .f32 → P F α} :
    (oP c q (lay t) : sProp 𝕄) ⊢ iprop((oP c q (lay t) -∗ WP c (k t) Q) -∗ WP c (loadO q >>= k) Q) := by
  unfold loadO oP
  simp only [Prog.lift, Prog.bind_op, Prog.bind_ret]
  iintro Ho Hk
  iapply (wp_load 𝒱₀ (c : Thread nD τ) none Set.univ (m := oM) (load_sub cc0_stg0_0 (oR q) (Finset.Subset.refl _))) $$ Ho
  rw [read_o]
  iexact Hk

/-- reading it when its contents do not matter, -/
theorem wp_peekO (c : Dev nD) (q : Fin 4) {k : P F α} :
    iprop(∃ f, oP c q f : sProp 𝕄) ⊢ iprop(((∃ f, oP c q f) -∗ WP c k Q) -∗ WP c (loadO q >>= fun _ => k) Q) := by
  unfold loadO oP
  simp only [Prog.lift, Prog.bind_op, Prog.bind_ret]
  iintro ⟨%f, Ho⟩ Hk
  iapply (wp_load 𝒱₀ (c : Thread nD τ) none Set.univ (m := oM) (load_sub cc0_stg0_0 (oR q) (Finset.Subset.refl _))) $$ Ho
  iintro Ho
  iapply Hk
  iexists f; iexact Ho

/-- and writing it. -/
theorem wp_storeO (c : Dev nD) (q : Fin 4) (t : FVec F S256x2048 .f32) {k : PUnit → P F α} :
    iprop(∃ f, oP c q f : sProp 𝕄) ⊢ iprop((oP c q (lay t) -∗ WP c (k ⟨⟩) Q) -∗ WP c (storeO q t >>= k) Q) := by
  unfold storeO oP
  simp only [Prog.lift, Prog.bind_op, Prog.bind_ret]
  iintro ⟨%f, Ho⟩ Hk
  iapply (wp_store 𝒱₀ (c : Thread nD τ) none Set.univ (m := oM) (r := oR q) (Mk := Finset.univ) (store_sub cc0_stg0_0 (oR q) (Finset.Subset.refl _))) $$ Ho
  iintro Ho
  ihave Ho := (Entails.of_eq (pointsTo_congr (write_o q t f))) $$ Ho
  iapply Hk
  iexact Ho

/-- The first product of a row tile, from the device's own converted tile. -/
theorem wp_mmTile (c : Dev nD) (w : FVec F S1024x2048 .bf16) (s : Fin 16) (q : Fin 4) {k : PUnit → P F α} :
    (xbP c s (XB m c) : sProp 𝕄)
      ⊢ iprop((∃ f, oP c q f) -∗ ((xbP c s (XB m c) ∗ oP c q (lay (mmPay w (xTile m c s.val)))) -∗ WP c (k ⟨⟩) Q) -∗ WP c (mmTile w s q >>= k) Q) := by
  unfold mmTile xbP
  simp only [bind_assoc, Prog.lift, Prog.bind_op, Prog.bind_ret]
  iintro Hb Ho Hk
  iapply (wp_load 𝒱₀ (c : Thread nD τ) none Set.univ (m := xbM) (load_sub cc0_scratch1 (xbR s) (Finset.Subset.refl _))) $$ Hb
  iintro Hb
  rw [read_xb m c s]
  iapply (wp_peekO c q) $$ Ho
  iintro Ho
  iapply (wp_storeO c q _) $$ Ho
  iintro Ho
  iapply Hk
  isplitl [Hb]; · iexact Hb
  iexact Ho

/-- A further product, from a received tile. -/
theorem wp_addTile (c : Dev nD) (w : FVec F S1024x2048 .bf16) (s : Fin 12) (q : Fin 4) (t : FVec F S256x2048 .f32) {k : PUnit → P F α} :
    (rbP c s (RB m c) : sProp 𝕄)
      ⊢ iprop(oP c q (lay t) -∗ ((rbP c s (RB m c) ∗ oP c q (lay (addPay w (xTile m (src c (s.val / 4)) s.val) t))) -∗ WP c (k ⟨⟩) Q)
          -∗ WP c (addTile w s q >>= k) Q) := by
  unfold addTile rbP
  simp only [bind_assoc, Prog.lift, Prog.bind_op, Prog.bind_ret]
  iintro Hb Ho Hk
  iapply (wp_load 𝒱₀ (c : Thread nD τ) none Set.univ (m := rbM) (load_sub cc0_scratch3 (rbR s) (Finset.Subset.refl _))) $$ Hb
  iintro Hb
  rw [read_rb m c s]
  iapply (wp_loadO c q t) $$ Ho
  iintro Ho
  iapply (wp_loadO c q t) $$ Ho
  iintro Ho
  iapply (wp_storeO c q _) $$ [Ho]
  · iexists _; iexact Ho
  iintro Ho
  iapply Hk
  isplitl [Hb]; · iexact Hb
  iexact Ho

/-- The activation. -/
theorem wp_geluTile (c : Dev nD) (q : Fin 4) (t : FVec F S256x2048 .f32) {k : PUnit → P F α} :
    (oP c q (lay t) : sProp 𝕄) ⊢ iprop((oP c q (lay (k0_pay1 t)) -∗ WP c (k ⟨⟩) Q) -∗ WP c (geluTile q >>= k) Q) := by
  unfold geluTile
  simp only [bind_assoc]
  iintro Ho Hk
  iapply (wp_loadO c q t) $$ Ho
  iintro Ho
  iapply (wp_loadO c q t) $$ Ho
  iintro Ho
  iapply (wp_storeO c q _) $$ [Ho]
  · iexists _; iexact Ho
  iexact Hk

/-- Reading a block of `w`. -/
theorem wp_loadW (c : Dev nD) (b : Fin 2) (i : ℕ) {k : Vec F S1x1024x2048 .f32 → P F α} :
    (wdP c (wdR b).set (WD m c i) : sProp 𝕄) ⊢ iprop((wdP c (wdR b).set (WD m c i) -∗ WP c (k (wBlock m c i)) Q) -∗ WP c (loadW b >>= k) Q) := by
  unfold loadW wdP
  simp only [Prog.lift, Prog.bind_op, Prog.bind_ret]
  iintro Hw Hk
  iapply (wp_load 𝒱₀ (c : Thread nD τ) none Set.univ (m := wdM) (load_sub cc0_scratch2 (wdR b) (Finset.Subset.refl _))) $$ Hw
  rw [read_wd m c i b]
  iexact Hk

/-! ## Transfers -/

variable (K : Dev nD × CI → ℕ)

/-- What starting transfer `s` needs of the protocol: both its cells, and the tokens it pays their rounds with. -/
def sendKit (c : Dev nD) (s : Fin 12) : sProp 𝕄 :=
  iprop(cellInv ER (Rd m) (K (c, kSnd s)) (sndCell c s) ∗ cellInv ER (Rd m) (K (peer c s, kRcv s)) (rcvCell (peer c s) s)
    ∗ dutyTok ER (sndCell c s) 0 (dSnd s) ∗ reached ER (sndCell c s) 0 ∗ dutyTok ER (rcvCell (peer c s) s) 0 (dRcv s))

/-- What waiting for the two ends of slot `s` needs: its own two cells, its positions at them, and the credit of the tile to come. -/
def waitKit (c : Dev nD) (s : Fin 12) : sProp 𝕄 :=
  iprop(cellInv ER (Rd m) (K (c, kSnd s)) (sndCell c s) ∗ cellInv ER (Rd m) (K (c, kRcv s)) (rcvCell c s)
    ∗ atPos ER (sndCell c s) 0 ∅ 0 ∗ atPos ER (rcvCell c s) 0 ∅ 0 ∗ cred (tallyAt (rcvCell c s) () N))

/-- Starting transfer `s`: one tile fewer is owed, and the credit of its departure is there to wait with. -/
theorem wp_sendSlot (c n : Dev nD) (s : Fin 12) (hn : n = peer c s) {k : PUnit → P F α} :
    (sendKit m K c s : sProp 𝕄)
      ⊢ iprop(slotFree c s -∗ xbP c (up s) (XB m c) -∗ owesX c (owe c (12 - s.val))
          -∗ ((cred (tallyAt (sndCell c s) () N) ∗ owesX c (owe c (11 - s.val))) -∗ WP c (k ⟨⟩) Q) -∗ WP c (sendSlot n s >>= k) Q) := by
  subst hn
  unfold sendSlot sendKit slotFree owesX
  simp only [Prog.lift, Prog.bind_op, Prog.bind_ret, rbP_eq, xbP_eq]
  iintro ⟨#HI, #HIp, Ht, #Hr, Htp⟩ ⟨⟨%f, Hd⟩, #Hrp⟩ Hs ⟨%W, HO⟩ Hk
  iapply (Rounds.wp_send_pointsTo 𝒱₀ ER (Rd m) (c : Thread nD τ) none (κ₁ := K (c, kSnd s)) (κ₂ := K (peer c s, kRcv s))
    (r₁ := 0) (r₂ := 0) (d₁ := dSnd s) (d₂ := dRcv s) (fd := f)
    (by rw [duties_snd]; exact Finset.mem_singleton_self _) (by rw [duties_rcv]; exact Finset.mem_singleton_self _)
    () () N (amount_rb s _) (show amt (dSnd s) = N from rfl) (show amt (dRcv s) = N from rfl) (owe c (11 - s.val)) (owe_succ c s)
    (by rw [pay_snd, xbP_eq])
    (by rw [pay_rcv, rbP_eq]; exact Entails.of_eq (pointsTo_congr (land_slot m c s f)))) $$ [Ht Htp Hd Hs HO]
  · isplitr; · iexact HI
    isplitr; · iexact HIp
    isplitl [Hs]; · iexact Hs
    isplitl [Hd]; · iexact Hd
    isplitl [HO]; · iexact HO
    isplitl [Ht]; · iexact Ht
    isplitr; · iexact Hr
    isplitl [Htp]; · iexact Htp
    iexact Hrp
  iintro ⟨Hc, HO⟩
  iapply Hk
  isplitl [Hc]; · iexact Hc
  iexists W; iexact HO

/-- Waiting for both ends of slot `s`: the slot sent is the device's again, the tile received is there, and both cells are
    back at zero. -/
theorem wp_waitSlot (c : Dev nD) (s : Fin 12) {k : PUnit → P F α} :
    (waitKit m K c s : sProp 𝕄)
      ⊢ iprop(cred (tallyAt (sndCell c s) () N) -∗ owesX c 0
          -∗ ((xbP c (up s) (XB m c) ∗ rbP c s (RB m c) ∗ (semVal (sndCell c s) 0 ∗ semVal (rcvCell c s) 0) ∗ owesX c 0) -∗ WP c (k ⟨⟩) Q)
          -∗ WP c (waitSlot s >>= k) Q) := by
  unfold waitSlot waitKit owesX
  simp only [bind_assoc, Prog.lift, Prog.bind_op, Prog.bind_ret]
  iintro ⟨#HI, #HIr, Hat, Hatr, Hcr⟩ Hc ⟨%W, HO⟩ Hk
  iapply (Rounds.wp_wait_rest_token 𝒱₀ ER (Rd m) (c : Thread nD τ) none (κ := K (c, kSnd s))
      (wpE_waitDma2_eq 𝒱₀ (c : Thread nD τ) none Set.univ) (Set.mem_univ _) () (O := 0) (W := W) (R := 0) (m := 0) (T := ∅)
      (by rw [Nat.zero_add, expect_snd])) $$ [Hc HO Hat]
  · isplitr; · iexact HI
    isplitl [Hc]; · iexact Hc
    isplitl [HO]; · iexact HO
    isplitr; · rw [MayWait_zero]; iempintro
    iexact Hat
  iintro ⟨HO, Hat, -, Hs⟩
  ihave Hs := (Entails.of_eq (rest_snd m c s)) $$ Hs
  iapply (Rounds.wp_wait_rest_token 𝒱₀ ER (Rd m) (c : Thread nD τ) none (κ := K (c, kRcv s))
      (wpE_waitDma2_eq 𝒱₀ (c : Thread nD τ) none Set.univ) (Set.mem_univ _) () (O := 0) (W := insert (SemLoc.dma (sS s), ()) W) (R := 0) (m := 0) (T := ∅)
      (by rw [Nat.zero_add, expect_rcv])) $$ [Hcr HO Hatr]
  · isplitr; · iexact HIr
    isplitl [Hcr]; · iexact Hcr
    isplitl [HO]; · iexact HO
    isplitr; · rw [MayWait_zero]; iempintro
    iexact Hatr
  iintro ⟨HO, Hatr, -, Hd⟩
  ihave Hd := (Entails.of_eq (rest_rcv m c s)) $$ Hd
  imod (Rounds.cell_close ER (Rd m) (Set.mem_univ (K (c, kSnd s))) (fun h => h) (R := 0 + 1) (duties_later m (sndCell c s))) $$ [Hat] with Hz
  · isplitr; · iexact HI
    iexact Hat
  imod (Rounds.cell_close ER (Rd m) (Set.mem_univ (K (c, kRcv s))) (fun h => h) (R := 0 + 1) (duties_later m (rcvCell c s))) $$ [Hatr] with Hzr
  · isplitr; · iexact HIr
    iexact Hatr
  iapply Hk
  isplitl [Hs]; · iexact Hs
  isplitl [Hd]; · iexact Hd
  isplitl [Hz Hzr]
  · isplitl [Hz]; · iexact Hz
    iexact Hzr
  iexists _; iexact HO

/-! ## The barrier -/

/-- What signalling the device `c` is the `i`-th peer of needs: that device's barrier cell and the token of the duty. -/
def signalKit (c : Dev nD) (i : Fin 3) : sProp 𝕄 :=
  iprop(cellInv ER (Rd m) (K (src c i, kBar)) (barCell (src c i)) ∗ dutyTok ER (barCell (src c i)) 0 (dBar i) ∗ reached ER (barCell (src c i)) 0)

/-- One slot of its own landing buffer, as a device hands it out. -/
def slotOwn (c : Dev nD) (s : Fin 12) : sProp 𝕄 := iprop((∃ f, rbP c s f) ∗ reached ER (rcvCell c s) 0)

/-- A slot of its landing buffer that device `c` hands over is one that the source of its step may write. -/
theorem slotOwn_eq (c : Dev nD) (i : Fin 3) (q : Fin 4) : (slotOwn c (sl i q) : sProp 𝕄) = slotFree (src c i) (sl i q) := by
  have h : peer (src c i) (sl i q) = c := by
    have : (sl i q).val / 4 = i.val := by show (4 * i.val + q.val) / 4 = i.val; have := q.isLt; omega
    show blk (src c i) ((sl i q).val / 4) = c
    rw [this, blk_src]
  unfold slotOwn slotFree
  rw [h]

/-- Signalling it hands over the four slots it writes. -/
theorem wp_signalBar (c n : Dev nD) (i : Fin 3) (hn : n = src c i) (O : CellTallies nD τ sig Unit) {k : PUnit → P F α} :
    (signalKit m K c i : sProp 𝕄)
      ⊢ iprop((slotOwn c (sl i 0) ∗ slotOwn c (sl i 1) ∗ slotOwn c (sl i 2) ∗ slotOwn c (sl i 3))
          -∗ owesX c (O + tallyAt (barCell (src c i)) () 1) -∗ (owesX c O -∗ WP c (k ⟨⟩) Q) -∗ WP c (semSignalWord n barS 1#32 >>= k) Q) := by
  subst hn
  unfold signalKit owesX
  simp only [semSignalWord, Prog.lift, Prog.bind_op, Prog.bind_ret, slotOwn_eq]
  iintro ⟨#HI, Ht, #Hr⟩ Hs ⟨%W, HO⟩ Hk
  iapply (Rounds.wp_signal 𝒱₀ ER (Rd m) (c : Thread nD τ) none (dst := (src c i : Thread nD τ)) (κ := K (src c i, kBar))
      (d := dBar i) (mem_duties m (src c i) (dBar i)) (show (1 : ℕ) = _ by decide) () O rfl) $$ [HO Ht Hs]
  · isplitr; · iexact HI
    isplitl [HO]; · iexact HO
    isplitl [Ht]; · iexact Ht
    isplitl [Hs]; · rw [pay_bar]; unfold barPay; iexact Hs
    iexact Hr
  iintro HO
  iapply Hk
  iexists W; iexact HO

/-- What waiting at the barrier needs. -/
def barKit (c : Dev nD) : sProp 𝕄 :=
  iprop(cellInv ER (Rd m) (K (c, kBar)) (barCell c) ∗ atPos ER (barCell c) 0 ∅ 0 ∗ cred (tallyAt (barCell c) () 3))

/-- Past the barrier all twelve slots of the peers may be written, and the barrier is back at zero. -/
theorem wp_waitBar (c : Dev nD) {O : CellTallies nD τ sig Unit} (hO : Later O) {k : PUnit → P F α} :
    (barKit m K c : sProp 𝕄)
      ⊢ iprop(levAts L lv -∗ owesX c O -∗ (((barPay c 0 ∗ barPay c 1 ∗ barPay c 2) ∗ semVal (barCell c) 0 ∗ owesX c O) -∗ WP c (k ⟨⟩) Q)
          -∗ WP c (semWaitWord barS 3#32 >>= k) Q) := by
  unfold barKit owesX
  simp only [semWaitWord, Prog.lift, Prog.bind_op, Prog.bind_ret]
  iintro ⟨#HI, Hat, Hc⟩ #Hlev ⟨%W, HO⟩ Hk
  iapply (Rounds.wp_wait_rest_token 𝒱₀ ER (Rd m) (c : Thread nD τ) none (κ := K (c, kBar))
      (wpE_semWait_eq 𝒱₀ (c : Thread nD τ) none Set.univ) (Set.mem_univ _) () (O := O) (W := W) (R := 0) (m := 0) (T := ∅)
      (by rw [expect_bar]; decide)) $$ [Hc HO Hat]
  · isplitr; · iexact HI
    isplitl [Hc]; · iexact Hc
    isplitl [HO]; · iexact HO
    isplitr; · iapply (mayWait_bar c hO); iexact Hlev
    iexact Hat
  iintro ⟨HO, Hat, -, Hp⟩
  ihave Hp := (Entails.of_eq (rest_bar m c)) $$ Hp
  imod (Rounds.cell_close ER (Rd m) (Set.mem_univ (K (c, kBar))) (fun h => h) (R := 0 + 1) (duties_later m (barCell c))) $$ [Hat] with Hz
  · isplitr; · iexact HI
    iexact Hat
  iapply Hk
  isplitl [Hp]; · iexact Hp
  isplitl [Hz]; · iexact Hz
  iexists _; iexact HO

end Cert.A2A

end
-- ==== Proof.Pieces.lean ====
/-
# The buffers in pieces

A buffer held whole is its slots, its halves or its row tiles held one by one, and the other way round. The slots of the
converted tiles, those of the landing buffer and the row tiles of the result are each cut along one axis; the buffers of
`x` and of `w` into halves, the first half of `x`'s once more, because it is filled by two copies.
-/
module

public import proofs.«01_k».proof.Proof.Steps

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)

local notation "𝕄" => MT nD τ sig Unit (Elt F) ℕ UU ℕ

/-! ## Families -/

/-- Families over two, three, four, five, twelve and sixteen members, written out. -/
theorem bigSep_two (Φ : Fin 2 → sProp 𝕄) : bigSep Finset.univ Φ = iprop(Φ 0 ∗ Φ 1) := bigSep_univ_eq_bigSepL [0, 1] (by decide) (by decide) Φ
theorem bigSep_three (Φ : Fin 3 → sProp 𝕄) : bigSep Finset.univ Φ = iprop(Φ 0 ∗ Φ 1 ∗ Φ 2) := bigSep_univ_eq_bigSepL [0, 1, 2] (by decide) (by decide) Φ
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem bigSep_five (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ
theorem bigSep_twelve (Φ : Fin 12 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11) :=
  bigSep_univ_eq_bigSepL [0, 1, 2, 3, 4, 5, 6, 7, 8, 9, 10, 11] (by decide) (by decide) Φ
theorem bigSep_sixteen (Φ : Fin 16 → sProp 𝕄) :
    bigSep Finset.univ Φ
      = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ

/-- A buffer held whole is the pieces of a cut of it. -/
theorem pointsTo_pieces (ℓ : Loc nD τ sig) {T : Type} [Fintype T] (A : T → Finset (Idx ℓ))
    (hd : ∀ t ∈ (Finset.univ : Finset T), ∀ t' ∈ (Finset.univ : Finset T), t ≠ t' → Disjoint (A t) (A t')) (hc : ∀ i, ∃ t, i ∈ A t) (f : Buf (Elt F) ℓ) :
    (ℓ ↦{fullShare} f : sProp 𝕄) = bigSep Finset.univ fun t => ℓ ↦[A t]{fullShare} f := by
  rw [← pointsTo_biUnion Finset.univ A hd,
    show Finset.univ.biUnion A = Finset.univ from Finset.eq_univ_of_forall fun i => let ⟨t, ht⟩ := hc i; Finset.mem_biUnion.mpr ⟨t, Finset.mem_univ t, ht⟩]

/-- Every member held at `f` is every member held at something. -/
theorem bigSep_forget {T B : Type} [Fintype T] (Φ : T → B → sProp 𝕄) (f : B) :
    (bigSep Finset.univ fun s => Φ s f) ⊢ bigSep Finset.univ fun s => iprop(∃ f, Φ s f) :=
  bigSep_mono fun s _ => show Φ s f ⊢ iprop(∃ f, Φ s f) from by iintro H; iexists f; iexact H

/-! ## The slots of the converted tiles -/

/-- The sixteen slots of the converted tiles do not meet, and cover the buffer; -/
theorem xb_disjoint : ∀ s ∈ (Finset.univ : Finset (Fin 16)), ∀ s' ∈ (Finset.univ : Finset (Fin 16)), s ≠ s' → Disjoint (xbR s).set (xbR s').set :=
  fun s _ s' _ h => Rect.unit_disjoint 0 (by
    show s.val + 1 ≤ s'.val ∨ s'.val + 1 ≤ s.val
    have := fun e => h (Fin.ext e); omega)

theorem xb_cover (i : S16x256x1024.Idx) : ∃ s, i ∈ (xbR s).set := by
  refine ⟨i 0, Rect.mem_set_unit.mpr fun a => ?_⟩
  fin_cases a
  · exact ⟨Nat.le_refl _, Nat.lt_succ_self _⟩
  · exact ⟨Nat.zero_le _, (Nat.zero_add 256).symm ▸ (i 1).isLt⟩
  · exact ⟨Nat.zero_le _, (Nat.zero_add 1024).symm ▸ (i 2).isLt⟩

/-- so the buffer at contents `f` is its slots at `f`; -/
theorem xb_pieces (c : Dev nD) (f : S16x256x1024.Idx → F .bf16) :
    (((c : Thread nD τ).loc cc0_scratch1) ↦{fullShare} f : sProp 𝕄) = bigSep Finset.univ fun s => xbP c s f := by
  unfold xbP
  exact pointsTo_pieces ((c : Thread nD τ).loc cc0_scratch1) (fun s : Fin 16 => (xbR s).set) xb_disjoint xb_cover f

/-- at any contents it opens into its slots, -/
theorem xb_open (c : Dev nD) : iprop(∃ f, ((c : Thread nD τ).loc cc0_scratch1) ↦{fullShare} f : sProp 𝕄) ⊢ bigSep Finset.univ fun s => iprop(∃ f, xbP (F := F) c s f) := by
  iintro ⟨%f, H⟩
  ihave H := (Entails.of_eq (xb_pieces c f)) $$ H
  iapply (bigSep_forget (fun s f => xbP (F := F) c s f) f) $$ H

/-- and slots that hold the tiles close into the buffer. -/
theorem xb_close (c : Dev nD) : (bigSep Finset.univ fun s => xbP (F := F) c s (XB m c)) ⊢ iprop(∃ f, ((c : Thread nD τ).loc cc0_scratch1) ↦{fullShare} f : sProp 𝕄) := by
  iintro H
  iexists (XB m c)
  rw [xb_pieces]; iexact H

/-! ## The slots of the landing buffer -/

/-- The same for the landing buffer's twelve slots: -/
theorem rb_disjoint : ∀ s ∈ (Finset.univ : Finset (Fin 12)), ∀ s' ∈ (Finset.univ : Finset (Fin 12)), s ≠ s' → Disjoint (rbR s).set (rbR s').set :=
  fun s _ s' _ h => Rect.unit_disjoint 0 (by
    show s.val + 1 ≤ s'.val ∨ s'.val + 1 ≤ s.val
    have := fun e => h (Fin.ext e); omega)

theorem rb_cover (i : S12x256x1024.Idx) : ∃ s, i ∈ (rbR s).set := by
  refine ⟨i 0, Rect.mem_set_unit.mpr fun a => ?_⟩
  fin_cases a
  · exact ⟨Nat.le_refl _, Nat.lt_succ_self _⟩
  · exact ⟨Nat.zero_le _, (Nat.zero_add 256).symm ▸ (i 1).isLt⟩
  · exact ⟨Nat.zero_le _, (Nat.zero_add 1024).symm ▸ (i 2).isLt⟩

/-- the buffer at contents `f` is its slots at `f`; -/
theorem rb_pieces (c : Dev nD) (f : S12x256x1024.Idx → F .bf16) :
    (((c : Thread nD τ).loc cc0_scratch3) ↦{fullShare} f : sProp 𝕄) = bigSep Finset.univ fun s => rbP c s f := by
  unfold rbP
  exact pointsTo_pieces ((c : Thread nD τ).loc cc0_scratch3) (fun s : Fin 12 => (rbR s).set) rb_disjoint rb_cover f

/-- it opens into its slots, each at any contents, -/
theorem rb_open (c : Dev nD) : iprop(∃ f, ((c : Thread nD τ).loc cc0_scratch3) ↦{fullShare} f : sProp 𝕄) ⊢ bigSep Finset.univ fun s => iprop(∃ f, rbP (F := F) c s f) := by
  iintro ⟨%f, H⟩
  ihave H := (Entails.of_eq (rb_pieces c f)) $$ H
  iapply (bigSep_forget (fun s f => rbP (F := F) c s f) f) $$ H

/-- and the slots close into the buffer. -/
theorem rb_close (c : Dev nD) : (bigSep Finset.univ fun s => rbP (F := F) c s (RB m c)) ⊢ iprop(∃ f, ((c : Thread nD τ).loc cc0_scratch3) ↦{fullShare} f : sProp 𝕄) := by
  iintro H
  iexists (RB m c)
  rw [rb_pieces]; iexact H

/-! ## The row tiles of the result -/

/-- The same for the result's four row tiles: -/
theorem o_disjoint : ∀ q ∈ (Finset.univ : Finset (Fin 4)), ∀ q' ∈ (Finset.univ : Finset (Fin 4)), q ≠ q' → Disjoint (oR q).set (oR q').set :=
  fun q _ q' _ h => Rect.unit_disjoint 0 (by
    show 256 * q.val + 256 ≤ 256 * q'.val ∨ 256 * q'.val + 256 ≤ 256 * q.val
    have := fun e => h (Fin.ext e); omega)

/-- an element is in the row tile that its row's quotient by 256 names; -/
theorem o_mem (q : Fin 4) (i : S1024x2048.Idx) : i ∈ (oR q).set ↔ (i 0).val / 256 = q.val := by
  rw [Rect.mem_set_unit]
  constructor
  · intro h
    have h0 : 256 * q.val ≤ (i 0).val ∧ (i 0).val < 256 * q.val + 256 := h 0
    omega
  · intro h a
    fin_cases a
    · show 256 * q.val ≤ (i 0).val ∧ (i 0).val < 256 * q.val + 256
      omega
    · exact ⟨Nat.zero_le _, (Nat.zero_add 2048).symm ▸ (i 1).isLt⟩

theorem o_cover (i : S1024x2048.Idx) : ∃ q, i ∈ (oR q).set := by
  have h : (i 0).val < 1024 := (i 0).isLt
  exact ⟨⟨(i 0).val / 256, by omega⟩, (o_mem _ i).mpr rfl⟩

/-- the buffer at contents `f` is its row tiles at `f`, -/
theorem o_pieces (c : Dev nD) (f : S1024x2048.Idx → F .f32) :
    (((c : Thread nD τ).loc cc0_stg0_0) ↦{fullShare} f : sProp 𝕄) = bigSep Finset.univ fun q => oP c q f := by
  unfold oP
  exact pointsTo_pieces ((c : Thread nD τ).loc cc0_stg0_0) (fun q : Fin 4 => (oR q).set) o_disjoint o_cover f

/-- and it opens into them. -/
theorem o_open (c : Dev nD) : iprop(∃ f, ((c : Thread nD τ).loc cc0_stg0_0) ↦{fullShare} f : sProp 𝕄) ⊢ bigSep Finset.univ fun q => iprop(∃ f, oP (F := F) c q f) := by
  iintro ⟨%f, H⟩
  ihave H := (Entails.of_eq (o_pieces c f)) $$ H
  iapply (bigSep_forget (fun q f => oP (F := F) c q f) f) $$ H

/-- The four finished row tiles are the result. -/
theorem o_close (c : Dev nD) : (bigSep Finset.univ fun q : Fin 4 => oP c q (lay (k0_pay1 (tile m c q.val 3)))) ⊢
    (((c : Thread nD τ).loc cc0_stg0_0) ↦{fullShare} OUT m c : sProp 𝕄) := by
  rw [o_pieces]
  refine bigSep_mono fun q _ => show oP c q (lay (k0_pay1 (tile m c q.val 3))) ⊢ oP c q (OUT m c) from ?_
  have h : ∀ i ∈ (oR q).set, lay (k0_pay1 (tile m c q.val 3)) i = OUT m c i := fun i hi => by unfold OUT; rw [(o_mem q i).mp hi]
  unfold oP
  exact Entails.of_eq (pointsTo_congr h)

/-! ## The buffers of `x` and of `w` -/

/-- The first half of the buffer of `x` is its first tile and the rest, which two copies fill. -/
theorem xdH_split : (xdH 0).set = (xdR 0 0).set ∪ xdR2.set := by
  ext i
  rw [Finset.mem_union, Rect.mem_set_unit, Rect.mem_set_unit, Rect.mem_set_unit]
  simp only [Fin.forall_fin_succ, IsEmpty.forall_iff, and_true]
  have h1 : (i 1).val < 1024 := (i 1).isLt
  show ((0 ≤ (i 0).val ∧ (i 0).val < 0 + 1) ∧ (0 ≤ (i 1).val ∧ (i 1).val < 0 + 1024) ∧ (0 ≤ (i 2).val ∧ (i 2).val < 0 + 1024))
    ↔ ((0 ≤ (i 0).val ∧ (i 0).val < 0 + 1) ∧ (256 * 0 ≤ (i 1).val ∧ (i 1).val < 256 * 0 + 256) ∧ (0 ≤ (i 2).val ∧ (i 2).val < 0 + 1024))
      ∨ ((0 ≤ (i 0).val ∧ (i 0).val < 0 + 1) ∧ (256 ≤ (i 1).val ∧ (i 1).val < 256 + 768) ∧ (0 ≤ (i 2).val ∧ (i 2).val < 0 + 1024))
  omega

theorem xd_split_disjoint : Disjoint (xdR 0 0).set xdR2.set := Rect.unit_disjoint 1 (by decide)
/-- The halves of the buffers of `x` and `w` do not meet, and cover them. -/
theorem xd_disjoint : Disjoint (xdH 0).set (xdH 1).set := Rect.unit_disjoint 0 (by decide)
theorem wd_disjoint : Disjoint (wdR 0).set (wdR 1).set := Rect.unit_disjoint 0 (by decide)

theorem xd_cover : (Finset.univ : Finset S2x1024x1024.Idx) = (xdH 0).set ∪ (xdH 1).set := by
  refine (Finset.eq_univ_of_forall fun i => Finset.mem_union.mpr ?_).symm
  rw [Rect.mem_set_unit, Rect.mem_set_unit]
  simp only [Fin.forall_fin_succ, IsEmpty.forall_iff, and_true]
  have h0 : (i 0).val < 2 := (i 0).isLt
  have h1 : (i 1).val < 1024 := (i 1).isLt
  have h2 : (i 2).val < 1024 := (i 2).isLt
  show ((0 ≤ (i 0).val ∧ (i 0).val < 0 + 1) ∧ (0 ≤ (i 1).val ∧ (i 1).val < 0 + 1024) ∧ (0 ≤ (i 2).val ∧ (i 2).val < 0 + 1024))
    ∨ ((1 ≤ (i 0).val ∧ (i 0).val < 1 + 1) ∧ (0 ≤ (i 1).val ∧ (i 1).val < 0 + 1024) ∧ (0 ≤ (i 2).val ∧ (i 2).val < 0 + 1024))
  omega

theorem wd_cover : (Finset.univ : Finset S2x1024x2048.Idx) = (wdR 0).set ∪ (wdR 1).set := by
  refine (Finset.eq_univ_of_forall fun i => Finset.mem_union.mpr ?_).symm
  rw [Rect.mem_set_unit, Rect.mem_set_unit]
  simp only [Fin.forall_fin_succ, IsEmpty.forall_iff, and_true]
  have h0 : (i 0).val < 2 := (i 0).isLt
  have h1 : (i 1).val < 1024 := (i 1).isLt
  have h2 : (i 2).val < 2048 := (i 2).isLt
  show ((0 ≤ (i 0).val ∧ (i 0).val < 0 + 1) ∧ (0 ≤ (i 1).val ∧ (i 1).val < 0 + 1024) ∧ (0 ≤ (i 2).val ∧ (i 2).val < 0 + 2048))
    ∨ ((1 ≤ (i 0).val ∧ (i 0).val < 1 + 1) ∧ (0 ≤ (i 1).val ∧ (i 1).val < 0 + 1024) ∧ (0 ≤ (i 2).val ∧ (i 2).val < 0 + 2048))
  omega

/-- The first half of `x`'s buffer from its two copies. -/
theorem xdH_join (c : Dev nD) (f : S2x1024x1024.Idx → F .f32) : iprop(xdP c (xdR 0 0).set f ∗ xdP c xdR2.set f) ⊢ (xdP c (xdH 0).set f : sProp 𝕄) := by
  unfold xdP
  rw [xdH_split]
  exact (pointsTo_union xd_split_disjoint).2

/-- The buffer of `x` opens into the first tile, the rest of its half and the other half, -/
theorem xd_open (c : Dev nD) : iprop(∃ f, ((c : Thread nD τ).loc cc0_scratch0) ↦{fullShare} f : sProp 𝕄)
    ⊢ iprop((∃ f, xdP (F := F) c (xdR 0 0).set f) ∗ (∃ f, xdP (F := F) c xdR2.set f) ∗ (∃ f, xdP (F := F) c (xdH 1).set f)) := by
  unfold xdP
  iintro ⟨%f, H⟩
  ihave H := ((Entails.of_eq (congrArg (fun S => (((c : Thread nD τ).loc cc0_scratch0) ↦[S]{fullShare} f : sProp 𝕄)) xd_cover)).trans
    (pointsTo_union xd_disjoint).1) $$ H
  icases H with ⟨H, H1⟩
  ihave H := ((Entails.of_eq (congrArg (fun S => (((c : Thread nD τ).loc cc0_scratch0) ↦[S]{fullShare} f : sProp 𝕄)) xdH_split)).trans
    (pointsTo_union xd_split_disjoint).1) $$ H
  icases H with ⟨Ha, Hb⟩
  isplitl [Ha]; · iexists f; iexact Ha
  isplitl [Hb]; · iexists f; iexact Hb
  iexists f; iexact H1

/-- and its halves close into it. -/
theorem xd_close (c : Dev nD) (f g : S2x1024x1024.Idx → F .f32) :
    iprop(xdP c (xdH 0).set f ∗ xdP c (xdH 1).set g) ⊢ iprop(∃ f, ((c : Thread nD τ).loc cc0_scratch0) ↦{fullShare} f : sProp 𝕄) := by
  unfold xdP
  refine (pointsTo_join xd_disjoint).trans ?_
  rw [← xd_cover]
  exact exists_intro (Φ := fun f => (((c : Thread nD τ).loc cc0_scratch0) ↦{fullShare} f : sProp 𝕄)) _

/-- The buffer of `w` opens into its halves, -/
theorem wd_open (c : Dev nD) : iprop(∃ f, ((c : Thread nD τ).loc cc0_scratch2) ↦{fullShare} f : sProp 𝕄)
    ⊢ iprop((∃ f, wdP (F := F) c (wdR 0).set f) ∗ (∃ f, wdP (F := F) c (wdR 1).set f)) := by
  unfold wdP
  iintro ⟨%f, H⟩
  ihave H := ((Entails.of_eq (congrArg (fun S => (((c : Thread nD τ).loc cc0_scratch2) ↦[S]{fullShare} f : sProp 𝕄)) wd_cover)).trans
    (pointsTo_union wd_disjoint).1) $$ H
  icases H with ⟨Ha, Hb⟩
  isplitl [Ha]; · iexists f; iexact Ha
  iexists f; iexact Hb

/-- which close into it. -/
theorem wd_close (c : Dev nD) (f g : S2x1024x2048.Idx → F .f32) :
    iprop(wdP c (wdR 0).set f ∗ wdP c (wdR 1).set g) ⊢ iprop(∃ f, ((c : Thread nD τ).loc cc0_scratch2) ↦{fullShare} f : sProp 𝕄) := by
  unfold wdP
  refine (pointsTo_join wd_disjoint).trans ?_
  rw [← wd_cover]
  exact exists_intro (Φ := fun f => (((c : Thread nD τ).loc cc0_scratch2) ↦{fullShare} f : sProp 𝕄)) _

/-! ## The copies' destinations -/

/-- What each local copy fills, as a part of its buffer. -/
theorem xdst1_set : xdst1.view.set = (xdR 0 0).set := (View.set_reshape _ _).trans (View.set_slice_whole _ _)
theorem xdst2_set : xdst2.view.set = xdR2.set := (View.set_reshape _ _).trans (View.set_slice_whole _ _)
theorem xdst_set (b : Fin 2) : (xdst b).view.set = (xdH b).set := (View.set_reshape _ _).trans (View.set_slice_whole _ _)
theorem wdst_set (b : Fin 2) : (wdst b).view.set = (wdR b).set := (View.set_reshape _ _).trans (View.set_slice_whole _ _)

/-- Holding a copy's destination is holding that part of the buffer. -/
theorem xd1_eq (c : Dev nD) (f : S2x1024x1024.Idx → F .f32) :
    xdP c (xdR 0 0).set f = (xdst1.view.loc (c : Thread nD τ) ↦[xdst1.view.set]{fullShare} f : sProp 𝕄) := by rw [xdst1_set]; rfl
theorem xd2_eq (c : Dev nD) (f : S2x1024x1024.Idx → F .f32) :
    xdP c xdR2.set f = (xdst2.view.loc (c : Thread nD τ) ↦[xdst2.view.set]{fullShare} f : sProp 𝕄) := by rw [xdst2_set]; rfl
theorem xd_eq (c : Dev nD) (b : Fin 2) (f : S2x1024x1024.Idx → F .f32) :
    xdP c (xdH b).set f = ((xdst b).view.loc (c : Thread nD τ) ↦[(xdst b).view.set]{fullShare} f : sProp 𝕄) := by rw [xdst_set]; rfl
theorem wd_eq (c : Dev nD) (b : Fin 2) (f : S2x1024x2048.Idx → F .f32) :
    wdP c (wdR b).set f = ((wdst b).view.loc (c : Thread nD τ) ↦[(wdst b).view.set]{fullShare} f : sProp 𝕄) := by rw [wdst_set]; rfl

/-- A row tile lies in its half of the buffer. -/
theorem xdR_sub (b : Fin 2) (q : Fin 4) : (xdR b q).set ⊆ (xdH b).set := fun i hi => by
  rw [Rect.mem_set_unit] at hi ⊢
  intro a
  fin_cases a
  · exact hi 0
  · exact ⟨Nat.zero_le _, (Nat.zero_add 1024).symm ▸ (i 1).isLt⟩
  · exact hi 2

/-- Past the first, a row tile of the first half lies in the part the second copy fills. -/
theorem xdR_sub2 (q : Fin 4) (hq : 1 ≤ q.val) : (xdR 0 q).set ⊆ xdR2.set := fun i hi => by
  rw [Rect.mem_set_unit] at hi ⊢
  have h1 : 256 * q.val ≤ (i 1).val ∧ (i 1).val < 256 * q.val + 256 := hi 1
  intro a
  fin_cases a
  · exact hi 0
  · show 256 ≤ (i 1).val ∧ (i 1).val < 256 + 768
    have : (i 1).val < 1024 := (i 1).isLt
    omega
  · exact hi 2

end Cert.A2A

end
-- ==== Proof.Halves.lean ====
/-
# The two halves of the kernel

The local copies of `x` and of `w` with what each lands, then the first half of the plan — barrier, conversions, sends —
and the second — products and activation — each as one rule, a chain of the steps' rules.
-/
module

public import proofs.«01_k».proof.Proof.Pieces

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)

variable (K : Dev nD × CI → ℕ)
variable {α : Type} {Q : α → sProp (MT nD τ sig Unit (Elt F) ℕ UU ℕ)}

local notation "𝕄" => MT nD τ sig Unit (Elt F) ℕ UU ℕ

/-! ## The local copies -/

/-- One of the shares of its shard of `x`, and of its copy of `w`, that a device's local copies read. -/
def xArg (c : Dev nD) (j : Fin 5) : sProp 𝕄 := ((c : Thread nD τ).loc main_arg0) ↦{Transfers.shareTok fullShare 5 j} m ((c : Thread nD τ).loc main_arg0)
def wArg (c : Dev nD) (j : Fin 4) : sProp 𝕄 := ((c : Thread nD τ).loc main_arg1) ↦{Transfers.shareTok fullShare 4 j} m ((c : Thread nD τ).loc main_arg1)

/-- The first quarter of the first block of `x`, copied on its own. -/
theorem wp_startX1 (c : Dev nD) (j : Fin 5) {hs : (xsrc1 c).view.WordExact} {hd : (xdst1).view.WordExact} {k : PUnit → P F α} :
    (xArg m c j : sProp 𝕄)
      ⊢ iprop((∃ f, xdP (F := F) c (xdR 0 0).set f) -∗ semVal ((c : Thread nD τ), .dma (xS 0)) 0
          -∗ (Fly c (xsrc1 c) (xdst1) (xS 0) (m ((c : Thread nD τ).loc main_arg0)) -∗ WP c (k ⟨⟩) Q)
          -∗ WP c (startCopy (xsrc1 c) (xdst1) (xS 0) hs hd >>= k) Q) := by
  unfold xArg
  iintro Hs ⟨%f, Hd⟩ Hv Hk
  ihave Hd := (Entails.of_eq (xd1_eq c f)) $$ Hd
  iapply (wp_startCopy c (src := xsrc1 c) (dst := xdst1) (sem := xS 0) (View.amount_pos _ (.dma (xS 0)) (by decide)) (fd := f)) $$ Hs Hd Hv
  iexact Hk

/-- The rest of the first block. -/
theorem wp_startX2 (c : Dev nD) (j : Fin 5) {hs : (xsrc2 c).view.WordExact} {hd : (xdst2).view.WordExact} {k : PUnit → P F α} :
    (xArg m c j : sProp 𝕄)
      ⊢ iprop((∃ f, xdP (F := F) c xdR2.set f) -∗ semVal ((c : Thread nD τ), .dma (xS 1)) 0
          -∗ (Fly c (xsrc2 c) (xdst2) (xS 1) (m ((c : Thread nD τ).loc main_arg0)) -∗ WP c (k ⟨⟩) Q)
          -∗ WP c (startCopy (xsrc2 c) (xdst2) (xS 1) hs hd >>= k) Q) := by
  unfold xArg
  iintro Hs ⟨%f, Hd⟩ Hv Hk
  ihave Hd := (Entails.of_eq (xd2_eq c f)) $$ Hd
  iapply (wp_startCopy c (src := xsrc2 c) (dst := xdst2) (sem := xS 1) (View.amount_pos _ (.dma (xS 1)) (by decide)) (fd := f)) $$ Hs Hd Hv
  iexact Hk

/-- A whole block of `x`, into half `b`. -/
theorem wp_startX (c : Dev nD) (j : Fin 5) (b : Fin 2) (p : Fin 5) (off : Fin 2 → ℕ) (hin : ∀ a, off a + S1024x1024.size a ≤ S4096x1024.size a) {hs : (xsrc off hin).view.WordExact} {hd : (xdst b).view.WordExact} {k : PUnit → P F α} :
    (xArg m c j : sProp 𝕄)
      ⊢ iprop((∃ f, xdP (F := F) c (xdH b).set f) -∗ semVal ((c : Thread nD τ), .dma (xS p)) 0
          -∗ (Fly c (xsrc off hin) (xdst b) (xS p) (m ((c : Thread nD τ).loc main_arg0)) -∗ WP c (k ⟨⟩) Q)
          -∗ WP c (startCopy (xsrc off hin) (xdst b) (xS p) hs hd >>= k) Q) := by
  unfold xArg
  iintro Hs ⟨%f, Hd⟩ Hv Hk
  ihave Hd := (Entails.of_eq (xd_eq c b f)) $$ Hd
  iapply (wp_startCopy c (src := xsrc off hin) (dst := xdst b) (sem := xS p) (View.amount_pos _ (.dma (xS p)) (by decide)) (fd := f)) $$ Hs Hd Hv
  iexact Hk

/-- A block of `w`, into half `b`. -/
theorem wp_startW (c : Dev nD) (j : Fin 4) (b : Fin 2) (off : Fin 2 → ℕ) (hin : ∀ a, off a + S1024x2048.size a ≤ S4096x2048.size a) {hs : (wsrc off hin).view.WordExact} {hd : (wdst b).view.WordExact} {k : PUnit → P F α} :
    (wArg m c j : sProp 𝕄)
      ⊢ iprop((∃ f, wdP (F := F) c (wdR b).set f) -∗ semVal ((c : Thread nD τ), .dma (wS b)) 0
          -∗ (Fly c (wsrc off hin) (wdst b) (wS b) (m ((c : Thread nD τ).loc main_arg1)) -∗ WP c (k ⟨⟩) Q)
          -∗ WP c (startCopy (wsrc off hin) (wdst b) (wS b) hs hd >>= k) Q) := by
  unfold wArg
  iintro Hs ⟨%f, Hd⟩ Hv Hk
  ihave Hd := (Entails.of_eq (wd_eq c b f)) $$ Hd
  iapply (wp_startCopy c (src := wsrc off hin) (dst := wdst b) (sem := wS b) (View.amount_pos _ (.dma (wS b)) (by decide)) (fd := f)) $$ Hs Hd Hv
  iexact Hk

/-- The semaphores of the copies of `x` are below the send and receive semaphores. -/
theorem xS_local (p : Fin 5) : (xS p).val < 20 := by revert p; decide
/-- So are those of the copies of `w`: all twenty are waited on below everything owed. -/
theorem wS_local (b : Fin 2) : (wS b).val < 20 := by revert b; decide

/-- Its landing: the first quarter of block 0. -/
theorem wp_waitX1 (c : Dev nD) {hs : (xsrc1 c).view.WordExact} {hd : (xdst1).view.WordExact} {O : CellTallies nD τ sig Unit} (hO : Late O)
    {k : PUnit → P F α} :
    (Fly c (xsrc1 c) (xdst1) (xS 0) (m ((c : Thread nD τ).loc main_arg0)) : sProp 𝕄)
      ⊢ iprop(levAts L lv -∗ owesX c O
          -∗ ((xdP c (xdR 0 0).set (XD m c 0) ∗ semVal ((c : Thread nD τ), .dma (xS 0)) 0 ∗ owesX c O) -∗ WP c (k ⟨⟩) Q)
          -∗ WP c (waitCopy (xsrc1 c) (xdst1) (xS 0) hs hd >>= k) Q) := by
  rw [xd1_eq]
  exact wp_waitCopy c (src := xsrc1 c) (dst := xdst1) (sem := xS 0) (xS_local 0) hO _ (fun f => land_x1 m c 0 (off1_eq c).1 (off1_eq c).2 f)

/-- The rest of block 0. -/
theorem wp_waitX2 (c : Dev nD) {hs : (xsrc2 c).view.WordExact} {hd : (xdst2).view.WordExact} {O : CellTallies nD τ sig Unit} (hO : Late O)
    {k : PUnit → P F α} :
    (Fly c (xsrc2 c) (xdst2) (xS 1) (m ((c : Thread nD τ).loc main_arg0)) : sProp 𝕄)
      ⊢ iprop(levAts L lv -∗ owesX c O
          -∗ ((xdP c xdR2.set (XD m c 0) ∗ semVal ((c : Thread nD τ), .dma (xS 1)) 0 ∗ owesX c O) -∗ WP c (k ⟨⟩) Q)
          -∗ WP c (waitCopy (xsrc2 c) (xdst2) (xS 1) hs hd >>= k) Q) := by
  rw [xd2_eq]
  exact wp_waitCopy c (src := xsrc2 c) (dst := xdst2) (sem := xS 1) (xS_local 1) hO _ (fun f => land_x2 m c 0 (off2_eq c).1 (off2_eq c).2 f)

/-- Block `i`, if the copy reads from its first row. -/
theorem wp_waitX (c : Dev nD) (b : Fin 2) (p : Fin 5) (i : ℕ) (off : Fin 2 → ℕ) (hin : ∀ a, off a + S1024x1024.size a ≤ S4096x1024.size a) (h : off 0 = (blk c i).val * 1024 ∧ off 1 = 0)
    {hs : (xsrc off hin).view.WordExact} {hd : (xdst b).view.WordExact} {O : CellTallies nD τ sig Unit} (hO : Late O)
    {k : PUnit → P F α} :
    (Fly c (xsrc off hin) (xdst b) (xS p) (m ((c : Thread nD τ).loc main_arg0)) : sProp 𝕄)
      ⊢ iprop(levAts L lv -∗ owesX c O
          -∗ ((xdP c (xdH b).set (XD m c i) ∗ semVal ((c : Thread nD τ), .dma (xS p)) 0 ∗ owesX c O) -∗ WP c (k ⟨⟩) Q)
          -∗ WP c (waitCopy (xsrc off hin) (xdst b) (xS p) hs hd >>= k) Q) := by
  rw [xd_eq]
  exact wp_waitCopy c (src := xsrc off hin) (dst := xdst b) (sem := xS p) (xS_local p) hO _ (fun f => land_x m c i b off hin h.1 h.2 f)

/-- The `i`-th block of `w` in this device's order, if the copy reads from its first row. -/
theorem wp_waitW (c : Dev nD) (b : Fin 2) (i : ℕ) (off : Fin 2 → ℕ) (hin : ∀ a, off a + S1024x2048.size a ≤ S4096x2048.size a) (h : off 0 = (ord c i).val * 1024 ∧ off 1 = 0)
    {hs : (wsrc off hin).view.WordExact} {hd : (wdst b).view.WordExact} {O : CellTallies nD τ sig Unit} (hO : Late O)
    {k : PUnit → P F α} :
    (Fly c (wsrc off hin) (wdst b) (wS b) (m ((c : Thread nD τ).loc main_arg1)) : sProp 𝕄)
      ⊢ iprop(levAts L lv -∗ owesX c O
          -∗ ((wdP c (wdR b).set (WD m c i) ∗ semVal ((c : Thread nD τ), .dma (wS b)) 0 ∗ owesX c O) -∗ WP c (k ⟨⟩) Q)
          -∗ WP c (waitCopy (wsrc off hin) (wdst b) (wS b) hs hd >>= k) Q) := by
  rw [wd_eq]
  exact wp_waitCopy c (src := wsrc off hin) (dst := wdst b) (sem := wS b) (wS_local b) hO _ (fun f => land_w m c i b off hin h.1 h.2 f)

/-! ## The first half -/

/-- Converting a tile and starting its transfer, with the slot the barrier freed. -/
theorem wp_castSend (c n : Dev nD) (i : ℕ) (b : Fin 2) (q : Fin 4) (s : Fin 12) (s' : Fin 16) (o : ℕ) (hs : s.val = 4 * i + q.val) (hs' : s' = up s) (ho : o + s.val = 11)
    (hn : n = peer c s) (S : Finset S2x1024x1024.Idx) (hS : (xdR b q).set ⊆ S) {k : PUnit → P F α} :
    (sendKit m K c s : sProp 𝕄)
      ⊢ iprop(slotFree c s -∗ (∃ f, xbP c s' f) -∗ xdP c S (XD m c i) -∗ owesX c (owe c (o + 1))
          -∗ ((xdP c S (XD m c i) ∗ cred (tallyAt (sndCell c s) () N) ∗ owesX c (owe c o)) -∗ WP c (k ⟨⟩) Q)
          -∗ WP c (castSlot b q s' >>= fun _ => sendSlot n s >>= k) Q) := by
  obtain rfl : o = 11 - s.val := by omega
  subst hs'
  rw [show 11 - s.val + 1 = 12 - s.val from by omega]
  iintro Hg Hf Hb Hd HO Hk
  iapply (wp_castSlot m c i b q (up s) hs S hS) $$ Hd Hb
  iintro ⟨Hd, Hb⟩
  iapply (wp_sendSlot m K c n s hn) $$ Hg Hf Hb HO
  iintro ⟨Hc, HO⟩
  iapply Hk
  isplitl [Hd]; · iexact Hd
  isplitl [Hc]; · iexact Hc
  iexact HO

/-- The twelve slots that the barrier's three payments free, four in each. -/
theorem barPay_slots (c : Dev nD) : (iprop(barPay c 0 ∗ barPay c 1 ∗ barPay c 2) : sProp 𝕄)
    ⊢ iprop((slotFree c 0 ∗ slotFree c 1 ∗ slotFree c 2 ∗ slotFree c 3) ∗ (slotFree c 4 ∗ slotFree c 5 ∗ slotFree c 6 ∗ slotFree c 7)
      ∗ (slotFree c 8 ∗ slotFree c 9 ∗ slotFree c 10 ∗ slotFree c 11)) := Entails.refl _

/-- What the first half takes: the protocol's state, and its buffers and semaphores as they are at launch. -/
def exchangePre (c : Dev nD) : sProp 𝕄 :=
  iprop((bigSep Finset.univ fun s => sendKit m K c s) ∗ (bigSep Finset.univ fun s => slotOwn c s) ∗ (bigSep Finset.univ fun i => signalKit m K c i) ∗ barKit m K c
    ∗ (bigSep Finset.univ fun j => xArg m c j)
    ∗ ((∃ f, xdP (F := F) c (xdR 0 0).set f) ∗ (∃ f, xdP (F := F) c xdR2.set f) ∗ (∃ f, xdP (F := F) c (xdH 1).set f))
    ∗ (bigSep Finset.univ fun p : Fin 5 => semVal ((c : Thread nD τ), .dma (xS p)) 0)
    ∗ (bigSep Finset.univ fun s => iprop(∃ f, xbP (F := F) c s f)) ∗ owesX c (O₀ c))

/-- What it gives: every transfer started, the device's own four tiles converted, nothing owed. -/
def exchangePost (c : Dev nD) : sProp 𝕄 :=
  iprop((bigSep Finset.univ fun s : Fin 12 => cred (tallyAt (sndCell c s) () N))
    ∗ (xbP c 12 (XB m c) ∗ xbP c 13 (XB m c) ∗ xbP c 14 (XB m c) ∗ xbP c 15 (XB m c))
    ∗ (xdP c (xdH 0).set (XD m c 2) ∗ xdP c (xdH 1).set (XD m c 3))
    ∗ (bigSep Finset.univ fun p : Fin 5 => semVal ((c : Thread nD τ), .dma (xS p)) 0) ∗ semVal (barCell c) 0 ∗ owesX c 0)

set_option maxHeartbeats 1000000 in
/-- The first half of the body: from `exchangePre`, whatever follows may start from `exchangePost`. -/
theorem wp_exchange (c : Dev nD) {k : PUnit → P F α} :
    (exchangePre m K c : sProp 𝕄) ⊢ iprop(levAts L lv -∗ (exchangePost m c -∗ WP c (k ⟨⟩) Q) -∗ WP c (exchange c >>= k) Q) := by
  unfold exchangePre exchange
  rw [bigSep_twelve, bigSep_twelve, bigSep_three, bigSep_five, bigSep_five, bigSep_sixteen]
  simp only [bind_assoc]
  iintro ⟨⟨Hg0, Hg1, Hg2, Hg3, Hg4, Hg5, Hg6, Hg7, Hg8, Hg9, Hg10, Hg11⟩, ⟨Hr0, Hr1, Hr2, Hr3, Hr4, Hr5, Hr6, Hr7, Hr8, Hr9, Hr10, Hr11⟩, ⟨Hn0, Hn1, Hn2⟩, Hbar,
    ⟨Hx0, Hx1, Hx2, Hx3, Hx4⟩, ⟨Hd1, Hd2, Hd3⟩, ⟨Hv0, Hv1, Hv2, Hv3, Hv4⟩,
    ⟨Hb0, Hb1, Hb2, Hb3, Hb4, Hb5, Hb6, Hb7, Hb8, Hb9, Hb10, Hb11, Hb12, Hb13, Hb14, Hb15⟩, HO⟩ #Hlev Hk
  unfold O₀ O₁ O₂
  iapply (wp_signalBar m K c _ 1 (dev1_eq c) _) $$ Hn1 [Hr4 Hr5 Hr6 Hr7] HO
  · isplitl [Hr4]; · iexact Hr4
    isplitl [Hr5]; · iexact Hr5
    isplitl [Hr6]; · iexact Hr6
    iexact Hr7
  iintro HO
  iapply (wp_signalBar m K c _ 2 (dev2_eq c) _) $$ Hn2 [Hr8 Hr9 Hr10 Hr11] HO
  · isplitl [Hr8]; · iexact Hr8
    isplitl [Hr9]; · iexact Hr9
    isplitl [Hr10]; · iexact Hr10
    iexact Hr11
  iintro HO
  iapply (wp_signalBar m K c _ 0 (dev3_eq c) _) $$ Hn0 [Hr0 Hr1 Hr2 Hr3] HO
  · isplitl [Hr0]; · iexact Hr0
    isplitl [Hr1]; · iexact Hr1
    isplitl [Hr2]; · iexact Hr2
    iexact Hr3
  iintro HO
  iapply (wp_startX1 m c 0) $$ Hx0 Hd1 Hv0
  iintro Hf0
  iapply (wp_startX2 m c 1) $$ Hx1 Hd2 Hv1
  iintro Hf1
  iapply (wp_startX m c 2 1 2 _ _) $$ Hx2 Hd3 Hv2
  iintro Hf2
  iapply (wp_waitBar m K c (later_owe c 12)) $$ Hbar Hlev HO
  iintro ⟨Hs, Hz, HO⟩
  icases (barPay_slots c) $$ Hs with ⟨⟨Hs0, Hs1, Hs2, Hs3⟩, ⟨Hs4, Hs5, Hs6, Hs7⟩, Hs8, Hs9, Hs10, Hs11⟩
  iapply (wp_waitX1 m c (later_owe c 12).late) $$ Hf0 Hlev HO
  iintro ⟨Hd1, Hv0, HO⟩
  iapply (wp_castSend m K c _ 0 0 0 0 0 11 rfl rfl rfl (dev4_eq c) _ (Finset.Subset.refl _)) $$ Hg0 Hs0 Hb0 Hd1 HO
  iintro ⟨Hd1, Hc0, HO⟩
  iapply (wp_waitX2 m c (later_owe c 11).late) $$ Hf1 Hlev HO
  iintro ⟨Hd2, Hv1, HO⟩
  iapply (wp_castSend m K c _ 0 0 1 1 1 10 rfl rfl rfl (dev5_eq c) _ (xdR_sub2 1 (by decide))) $$ Hg1 Hs1 Hb1 Hd2 HO
  iintro ⟨Hd2, Hc1, HO⟩
  iapply (wp_castSend m K c _ 0 0 2 2 2 9 rfl rfl rfl (dev6_eq c) _ (xdR_sub2 2 (by decide))) $$ Hg2 Hs2 Hb2 Hd2 HO
  iintro ⟨Hd2, Hc2, HO⟩
  iapply (wp_castSend m K c _ 0 0 3 3 3 8 rfl rfl rfl (dev7_eq c) _ (xdR_sub2 3 (by decide))) $$ Hg3 Hs3 Hb3 Hd2 HO
  iintro ⟨Hd2, Hc3, HO⟩
  ihave Hd0 := (xdH_join c (XD m c 0)) $$ [Hd1 Hd2]
  · isplitl [Hd1]; · iexact Hd1
    iexact Hd2
  iapply (wp_startX m c 3 0 3 _ _) $$ Hx3 [Hd0] Hv3
  · iexists _; iexact Hd0
  iintro Hf3
  iapply (wp_waitX m c 1 2 1 _ _ (off3_eq1 c) (later_owe c 8).late) $$ Hf2 Hlev HO
  iintro ⟨Hd3, Hv2, HO⟩
  iapply (wp_castSend m K c _ 1 1 0 4 4 7 rfl rfl rfl (dev8_eq c) _ (xdR_sub 1 0)) $$ Hg4 Hs4 Hb4 Hd3 HO
  iintro ⟨Hd3, Hc4, HO⟩
  iapply (wp_castSend m K c _ 1 1 1 5 5 6 rfl rfl rfl (dev9_eq c) _ (xdR_sub 1 1)) $$ Hg5 Hs5 Hb5 Hd3 HO
  iintro ⟨Hd3, Hc5, HO⟩
  iapply (wp_castSend m K c _ 1 1 2 6 6 5 rfl rfl rfl (dev10_eq c) _ (xdR_sub 1 2)) $$ Hg6 Hs6 Hb6 Hd3 HO
  iintro ⟨Hd3, Hc6, HO⟩
  iapply (wp_castSend m K c _ 1 1 3 7 7 4 rfl rfl rfl (dev11_eq c) _ (xdR_sub 1 3)) $$ Hg7 Hs7 Hb7 Hd3 HO
  iintro ⟨Hd3, Hc7, HO⟩
  iapply (wp_startX m c 4 1 4 _ _) $$ Hx4 [Hd3] Hv4
  · iexists _; iexact Hd3
  iintro Hf4
  iapply (wp_waitX m c 0 3 2 _ _ (off3_eq2 c) (later_owe c 4).late) $$ Hf3 Hlev HO
  iintro ⟨Hd0, Hv3, HO⟩
  iapply (wp_castSend m K c _ 2 0 0 8 8 3 rfl rfl rfl (dev12_eq c) _ (xdR_sub 0 0)) $$ Hg8 Hs8 Hb8 Hd0 HO
  iintro ⟨Hd0, Hc8, HO⟩
  iapply (wp_castSend m K c _ 2 0 1 9 9 2 rfl rfl rfl (dev13_eq c) _ (xdR_sub 0 1)) $$ Hg9 Hs9 Hb9 Hd0 HO
  iintro ⟨Hd0, Hc9, HO⟩
  iapply (wp_castSend m K c _ 2 0 2 10 10 1 rfl rfl rfl (dev14_eq c) _ (xdR_sub 0 2)) $$ Hg10 Hs10 Hb10 Hd0 HO
  iintro ⟨Hd0, Hc10, HO⟩
  iapply (wp_castSend m K c _ 2 0 3 11 11 0 rfl rfl rfl (dev15_eq c) _ (xdR_sub 0 3)) $$ Hg11 Hs11 Hb11 Hd0 HO
  iintro ⟨Hd0, Hc11, HO⟩
  iapply (wp_waitX m c 1 4 3 _ _ (off4_eq c) (later_owe c 0).late) $$ Hf4 Hlev HO
  iintro ⟨Hd3, Hv4, HO⟩
  iapply (wp_castSlot m c 3 1 0 12 rfl _ (xdR_sub 1 0)) $$ Hd3 Hb12
  iintro ⟨Hd3, Hb12⟩
  iapply (wp_castSlot m c 3 1 1 13 rfl _ (xdR_sub 1 1)) $$ Hd3 Hb13
  iintro ⟨Hd3, Hb13⟩
  iapply (wp_castSlot m c 3 1 2 14 rfl _ (xdR_sub 1 2)) $$ Hd3 Hb14
  iintro ⟨Hd3, Hb14⟩
  iapply (wp_castSlot m c 3 1 3 15 rfl _ (xdR_sub 1 3)) $$ Hd3 Hb15
  iintro ⟨Hd3, Hb15⟩
  iapply Hk
  unfold exchangePost
  rw [bigSep_twelve, bigSep_five]
  isplitl [Hc0 Hc1 Hc2 Hc3 Hc4 Hc5 Hc6 Hc7 Hc8 Hc9 Hc10 Hc11]
  · isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    isplitl [Hc8]; · iexact Hc8
    isplitl [Hc9]; · iexact Hc9
    isplitl [Hc10]; · iexact Hc10
    iexact Hc11
  isplitl [Hb12 Hb13 Hb14 Hb15]
  · isplitl [Hb12]; · iexact Hb12
    isplitl [Hb13]; · iexact Hb13
    isplitl [Hb14]; · iexact Hb14
    iexact Hb15
  isplitl [Hd0 Hd3]
  · isplitl [Hd0]; · iexact Hd0
    iexact Hd3
  isplitl [Hv0 Hv1 Hv2 Hv3 Hv4]
  · isplitl [Hv0]; · iexact Hv0
    isplitl [Hv1]; · iexact Hv1
    isplitl [Hv2]; · iexact Hv2
    isplitl [Hv3]; · iexact Hv3
    iexact Hv4
  isplitl [Hz]; · iexact Hz
  iexact HO

/-! ## The second half -/

/-- The first product of a row tile, from the device's own block. -/
theorem wp_mmFirst (c : Dev nD) (q : Fin 4) (s : Fin 16) (hs : s.val = 12 + q.val) {k : PUnit → P F α} :
    (xbP c s (XB m c) : sProp 𝕄)
      ⊢ iprop((∃ f, oP (F := F) c q f) -∗ ((xbP c s (XB m c) ∗ oP c q (lay (tile m c q.val 0))) -∗ WP c (k ⟨⟩) Q)
          -∗ WP c (mmTile (wPay (wBlock m c 0)) s q >>= k) Q) := by
  rw [show tile m c q.val 0 = mmPay (wPay (wBlock m c 0)) (xTile m c s.val) from by rw [hs]; rfl]
  exact wp_mmTile m c _ s q

/-- Waiting for a tile and adding its product, on the way from product `i` to product `i + 1` of row tile `q`. -/
theorem wp_waitAdd (c : Dev nD) (i : ℕ) (q : Fin 4) (s : Fin 12) (hi : s.val / 4 = i) (hs : s.val = 4 * i + q.val) {k : PUnit → P F α} :
    (waitKit m K c s : sProp 𝕄)
      ⊢ iprop(cred (tallyAt (sndCell c s) () N) -∗ oP c q (lay (tile m c q.val i)) -∗ owesX c 0
          -∗ ((xbP c (up s) (XB m c) ∗ rbP c s (RB m c) ∗ (semVal (sndCell c s) 0 ∗ semVal (rcvCell c s) 0) ∗ oP c q (lay (tile m c q.val (i + 1))) ∗ owesX c 0)
            -∗ WP c (k ⟨⟩) Q)
          -∗ WP c (waitSlot s >>= fun _ => addTile (wPay (wBlock m c (i + 1))) s q >>= k) Q) := by
  iintro Hw Hc Ho HO Hk
  iapply (wp_waitSlot m K c s) $$ Hw Hc HO
  iintro ⟨Hb, Hr, Hz, HO⟩
  iapply (wp_addTile m c _ s q _) $$ Hr Ho
  iintro ⟨Hr, Ho⟩
  rw [hi, hs]
  iapply Hk
  isplitl [Hb]; · iexact Hb
  isplitl [Hr]; · iexact Hr
  isplitl [Hz]; · iexact Hz
  isplitl [Ho]; · iexact Ho
  iexact HO

/-- What the second half takes, -/
def productsPre (c : Dev nD) : sProp 𝕄 :=
  iprop((bigSep Finset.univ fun s => waitKit m K c s) ∗ (bigSep Finset.univ fun s : Fin 12 => cred (tallyAt (sndCell c s) () N))
    ∗ (bigSep Finset.univ fun j => wArg m c j) ∗ ((∃ f, wdP (F := F) c (wdR 0).set f) ∗ (∃ f, wdP (F := F) c (wdR 1).set f))
    ∗ (semVal ((c : Thread nD τ), .dma (wS 0)) 0 ∗ semVal ((c : Thread nD τ), .dma (wS 1)) 0)
    ∗ (xbP c 12 (XB m c) ∗ xbP c 13 (XB m c) ∗ xbP c 14 (XB m c) ∗ xbP c 15 (XB m c))
    ∗ (bigSep Finset.univ fun q => iprop(∃ f, oP (F := F) c q f)) ∗ owesX c 0)

/-- and what it gives: every slot held again, every semaphore at zero, the finished row tiles. -/
def productsPost (c : Dev nD) : sProp 𝕄 :=
  iprop((bigSep Finset.univ fun s => xbP c s (XB m c)) ∗ (bigSep Finset.univ fun s => rbP c s (RB m c))
    ∗ (bigSep Finset.univ fun s => iprop(semVal (sndCell c s) 0 ∗ semVal (rcvCell c s) 0))
    ∗ (wdP c (wdR 0).set (WD m c 2) ∗ wdP c (wdR 1).set (WD m c 3))
    ∗ (semVal ((c : Thread nD τ), .dma (wS 0)) 0 ∗ semVal ((c : Thread nD τ), .dma (wS 1)) 0)
    ∗ (bigSep Finset.univ fun q : Fin 4 => oP c q (lay (k0_pay1 (tile m c q.val 3)))) ∗ owesX c 0)

set_option maxHeartbeats 1000000 in
/-- The second half: from `productsPre`, whatever follows may start from `productsPost`. -/
theorem wp_products (c : Dev nD) {k : PUnit → P F α} :
    (productsPre m K c : sProp 𝕄) ⊢ iprop(levAts L lv -∗ (productsPost m c -∗ WP c (k ⟨⟩) Q) -∗ WP c (products c >>= k) Q) := by
  unfold productsPre products
  rw [bigSep_twelve, bigSep_twelve, bigSep_four, bigSep_four]
  simp only [bind_assoc]
  iintro ⟨⟨Hg0, Hg1, Hg2, Hg3, Hg4, Hg5, Hg6, Hg7, Hg8, Hg9, Hg10, Hg11⟩, ⟨Hc0, Hc1, Hc2, Hc3, Hc4, Hc5, Hc6, Hc7, Hc8, Hc9, Hc10, Hc11⟩, ⟨Hw0, Hw1, Hw2, Hw3⟩, ⟨Hd0, Hd1⟩, ⟨Hv0, Hv1⟩,
    ⟨Hb12, Hb13, Hb14, Hb15⟩, ⟨Ho0, Ho1, Ho2, Ho3⟩, HO⟩ #Hlev Hk
  have hO : Late (0 : CellTallies nD τ sig Unit) := (later_owe c 0).late
  iapply (wp_startW m c 0 0 _ _) $$ Hw0 Hd0 Hv0
  iintro Hf0
  iapply (wp_startW m c 1 1 _ _) $$ Hw1 Hd1 Hv1
  iintro Hf1
  iapply (wp_waitW m c 0 0 _ _ (off5_eq c) hO) $$ Hf0 Hlev HO
  iintro ⟨Hd0, Hv0, HO⟩
  iapply (wp_loadW m c 0 0) $$ Hd0
  iintro Hd0
  iapply (wp_startW m c 2 0 _ _) $$ Hw2 [Hd0] Hv0
  · iexists _; iexact Hd0
  iintro Hf0
  iapply (wp_mmFirst m c 0 12 rfl) $$ Hb12 Ho0
  iintro ⟨Hb12, Ho0⟩
  iapply (wp_mmFirst m c 1 13 rfl) $$ Hb13 Ho1
  iintro ⟨Hb13, Ho1⟩
  iapply (wp_mmFirst m c 2 14 rfl) $$ Hb14 Ho2
  iintro ⟨Hb14, Ho2⟩
  iapply (wp_mmFirst m c 3 15 rfl) $$ Hb15 Ho3
  iintro ⟨Hb15, Ho3⟩
  iapply (wp_waitW m c 1 1 _ _ (off6_eq1 c) hO) $$ Hf1 Hlev HO
  iintro ⟨Hd1, Hv1, HO⟩
  iapply (wp_loadW m c 1 1) $$ Hd1
  iintro Hd1
  iapply (wp_startW m c 3 1 _ _) $$ Hw3 [Hd1] Hv1
  · iexists _; iexact Hd1
  iintro Hf1
  iapply (wp_waitAdd m K c 0 0 0 rfl rfl) $$ Hg0 Hc0 Ho0 HO
  iintro ⟨Hb0, Hr0, Hz0, Ho0, HO⟩
  iapply (wp_waitAdd m K c 0 1 1 rfl rfl) $$ Hg1 Hc1 Ho1 HO
  iintro ⟨Hb1, Hr1, Hz1, Ho1, HO⟩
  iapply (wp_waitAdd m K c 0 2 2 rfl rfl) $$ Hg2 Hc2 Ho2 HO
  iintro ⟨Hb2, Hr2, Hz2, Ho2, HO⟩
  iapply (wp_waitAdd m K c 0 3 3 rfl rfl) $$ Hg3 Hc3 Ho3 HO
  iintro ⟨Hb3, Hr3, Hz3, Ho3, HO⟩
  iapply (wp_waitW m c 0 2 _ _ (off6_eq2 c) hO) $$ Hf0 Hlev HO
  iintro ⟨Hd0, Hv0, HO⟩
  iapply (wp_loadW m c 0 2) $$ Hd0
  iintro Hd0
  iapply (wp_waitAdd m K c 1 0 4 rfl rfl) $$ Hg4 Hc4 Ho0 HO
  iintro ⟨Hb4, Hr4, Hz4, Ho0, HO⟩
  iapply (wp_waitAdd m K c 1 1 5 rfl rfl) $$ Hg5 Hc5 Ho1 HO
  iintro ⟨Hb5, Hr5, Hz5, Ho1, HO⟩
  iapply (wp_waitAdd m K c 1 2 6 rfl rfl) $$ Hg6 Hc6 Ho2 HO
  iintro ⟨Hb6, Hr6, Hz6, Ho2, HO⟩
  iapply (wp_waitAdd m K c 1 3 7 rfl rfl) $$ Hg7 Hc7 Ho3 HO
  iintro ⟨Hb7, Hr7, Hz7, Ho3, HO⟩
  iapply (wp_waitW m c 1 3 _ _ (off6_eq3 c) hO) $$ Hf1 Hlev HO
  iintro ⟨Hd1, Hv1, HO⟩
  iapply (wp_loadW m c 1 3) $$ Hd1
  iintro Hd1
  iapply (wp_waitAdd m K c 2 0 8 rfl rfl) $$ Hg8 Hc8 Ho0 HO
  iintro ⟨Hb8, Hr8, Hz8, Ho0, HO⟩
  iapply (wp_geluTile c 0 _) $$ Ho0
  iintro Ho0
  iapply (wp_waitAdd m K c 2 1 9 rfl rfl) $$ Hg9 Hc9 Ho1 HO
  iintro ⟨Hb9, Hr9, Hz9, Ho1, HO⟩
  iapply (wp_geluTile c 1 _) $$ Ho1
  iintro Ho1
  iapply (wp_waitAdd m K c 2 2 10 rfl rfl) $$ Hg10 Hc10 Ho2 HO
  iintro ⟨Hb10, Hr10, Hz10, Ho2, HO⟩
  iapply (wp_geluTile c 2 _) $$ Ho2
  iintro Ho2
  iapply (wp_waitAdd m K c 2 3 11 rfl rfl) $$ Hg11 Hc11 Ho3 HO
  iintro ⟨Hb11, Hr11, Hz11, Ho3, HO⟩
  iapply (wp_geluTile c 3 _) $$ Ho3
  iintro Ho3
  iapply Hk
  unfold productsPost
  rw [bigSep_sixteen, bigSep_twelve, bigSep_twelve, bigSep_four]
  isplitl [Hb0 Hb1 Hb2 Hb3 Hb4 Hb5 Hb6 Hb7 Hb8 Hb9 Hb10 Hb11 Hb12 Hb13 Hb14 Hb15]
  · isplitl [Hb0]; · iexact Hb0
    isplitl [Hb1]; · iexact Hb1
    isplitl [Hb2]; · iexact Hb2
    isplitl [Hb3]; · iexact Hb3
    isplitl [Hb4]; · iexact Hb4
    isplitl [Hb5]; · iexact Hb5
    isplitl [Hb6]; · iexact Hb6
    isplitl [Hb7]; · iexact Hb7
    isplitl [Hb8]; · iexact Hb8
    isplitl [Hb9]; · iexact Hb9
    isplitl [Hb10]; · iexact Hb10
    isplitl [Hb11]; · iexact Hb11
    isplitl [Hb12]; · iexact Hb12
    isplitl [Hb13]; · iexact Hb13
    isplitl [Hb14]; · iexact Hb14
    iexact Hb15
  isplitl [Hr0 Hr1 Hr2 Hr3 Hr4 Hr5 Hr6 Hr7 Hr8 Hr9 Hr10 Hr11]
  · isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    isplitl [Hr7]; · iexact Hr7
    isplitl [Hr8]; · iexact Hr8
    isplitl [Hr9]; · iexact Hr9
    isplitl [Hr10]; · iexact Hr10
    iexact Hr11
  isplitl [Hz0 Hz1 Hz2 Hz3 Hz4 Hz5 Hz6 Hz7 Hz8 Hz9 Hz10 Hz11]
  · isplitl [Hz0]; · iexact Hz0
    isplitl [Hz1]; · iexact Hz1
    isplitl [Hz2]; · iexact Hz2
    isplitl [Hz3]; · iexact Hz3
    isplitl [Hz4]; · iexact Hz4
    isplitl [Hz5]; · iexact Hz5
    isplitl [Hz6]; · iexact Hz6
    isplitl [Hz7]; · iexact Hz7
    isplitl [Hz8]; · iexact Hz8
    isplitl [Hz9]; · iexact Hz9
    isplitl [Hz10]; · iexact Hz10
    iexact Hz11
  isplitl [Hd0 Hd1]
  · isplitl [Hd0]; · iexact Hd0
    iexact Hd1
  isplitl [Hv0 Hv1]
  · isplitl [Hv0]; · iexact Hv0
    iexact Hv1
  isplitl [Ho0 Ho1 Ho2 Ho3]
  · isplitl [Ho0]; · iexact Ho0
    isplitl [Ho1]; · iexact Ho1
    isplitl [Ho2]; · iexact Ho2
    iexact Ho3
  iexact HO

end Cert.A2A

end
-- ==== Proof.Body.lean ====
/-
# The kernel on one device

What a device starts from — the protocol's records, its positions, tokens and credits, a share of its arguments, its
buffers — and the run of its body from there to the finished result, with every buffer back and every semaphore at zero.
-/
module

public import proofs.«01_k».proof.Proof.Halves

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]
variable (m : (ℓ : Loc nD τ sig) → Buf (Elt F) ℓ)

local notation "𝕄" => MT nD τ sig Unit (Elt F) ℕ UU ℕ

/-! ## Families over the cells and over the duties -/

/-- A family over a device's cells is the barrier's member and the two families over the slots. -/
theorem bigSep_CI (Φ : CI → sProp 𝕄) :
    bigSep Finset.univ Φ = iprop(Φ kBar ∗ (bigSep Finset.univ fun s => Φ (kSnd s)) ∗ (bigSep Finset.univ fun s => Φ (kRcv s))) := by
  rw [bigSep_univ_sum, bigSep_univ_sum, Finset.univ_unique, bigSep_singleton]; rfl
/-- A family over a cell's duties is the family over the peers and the two over the slots. -/
theorem bigSep_D (Φ : D → sProp 𝕄) :
    bigSep Finset.univ Φ = iprop((bigSep Finset.univ fun i => Φ (dBar i)) ∗ (bigSep Finset.univ fun s => Φ (dSnd s)) ∗ (bigSep Finset.univ fun s => Φ (dRcv s))) := by
  rw [bigSep_univ_sum, bigSep_univ_sum]; rfl

/-- What holds for good may be used at every member of a family. -/
theorem bigSep_upgrade {T : Type} [Fintype T] [DecidableEq T] {R : sProp 𝕄} [BI.Persistent R] {Φ Ψ : T → sProp 𝕄} (h : ∀ i, iprop(R ∗ Φ i) ⊢ Ψ i) :
    iprop(R ∗ bigSep Finset.univ Φ) ⊢ bigSep Finset.univ Ψ := by
  refine (sep_mono_left (BI.bigSep_of_persistent (Finset.univ : Finset T) R)).trans ?_
  rw [← bigSep_sep']
  exact bigSep_mono fun i _ => show iprop(R ∗ Φ i) ⊢ Ψ i from h i

/-! ## What a device starts from -/

section Ghost
variable (K : Dev nD × CI → ℕ)

/-- The records of the whole mesh: every cell's invariant, and that every cell's round has begun. -/
def records : sProp 𝕄 :=
  iprop((bigSep Finset.univ fun ck : Dev nD × CI => cellInv ER (Rd m) (K ck) (cell ck.1 ck.2))
    ∗ bigSep Finset.univ fun ck : Dev nD × CI => reached ER (cell ck.1 ck.2) 0)

/-- What is recorded for the whole mesh may be used any number of times. -/
instance records_persistent : BI.Persistent (records m K) := by unfold records; infer_instance

/-- One cell's invariant out of the records. -/
theorem inv_at (c : Dev nD) (k : CI) : (records m K : sProp 𝕄) ⊢ cellInv ER (Rd m) (K (c, k)) (cell c k) := by
  unfold records
  iintro ⟨H, -⟩
  iapply (show _ ⊢ cellInv ER (Rd m) (K (c, k)) (cell c k) from bigSep_elim (Finset.mem_univ (c, k))) $$ H
/-- One cell's first round, as reached, out of the records. -/
theorem reached_at (c : Dev nD) (k : CI) : (records m K : sProp 𝕄) ⊢ reached ER (cell c k) 0 := by
  unfold records
  iintro ⟨-, H⟩
  iapply (show _ ⊢ (reached ER (cell c k) 0 : sProp 𝕄) from bigSep_elim (Finset.mem_univ (c, k))) $$ H

/-- The tokens of the duties a device pays: a unit of every other device's barrier, its own send cells, and the cells its tiles arrive at. -/
def payToks (c : Dev nD) : sProp 𝕄 :=
  iprop((bigSep Finset.univ fun i : Fin 3 => dutyTok ER (barCell (src c i)) 0 (dBar i)) ∗ (bigSep Finset.univ fun s => dutyTok ER (sndCell c s) 0 (dSnd s))
    ∗ (bigSep Finset.univ fun s => dutyTok ER (rcvCell (peer c s) s) 0 (dRcv s)))

/-- Its positions at its own cells, with these tokens; -/
def linear (c : Dev nD) : sProp 𝕄 := iprop((bigSep Finset.univ fun k => atPos ER (cell c k) 0 ∅ 0) ∗ payToks c)

/-- the credits of what the other devices owe it; -/
def credits (c : Dev nD) : sProp 𝕄 :=
  iprop(cred (tallyAt (barCell c) () 3) ∗ bigSep Finset.univ fun s => cred (tallyAt (rcvCell c s) () N))

/-- the semaphores of its local copies, at zero; -/
def localSems (c : Dev nD) : sProp 𝕄 :=
  iprop((bigSep Finset.univ fun p : Fin 5 => semVal ((c : Thread nD τ), .dma (xS p)) 0) ∗ (bigSep Finset.univ fun b : Fin 2 => semVal ((c : Thread nD τ), .dma (wS b)) 0))

/-- its scratch buffers. -/
def scratch (c : Dev nD) : sProp 𝕄 :=
  iprop((∃ f, ((c : Thread nD τ).loc cc0_scratch0) ↦{fullShare} f) ∗ (∃ f, ((c : Thread nD τ).loc cc0_scratch1) ↦{fullShare} f)
    ∗ (∃ f, ((c : Thread nD τ).loc cc0_scratch2) ↦{fullShare} f) ∗ (∃ f, ((c : Thread nD τ).loc cc0_scratch3) ↦{fullShare} f))

/-- The pieces dealt step by step: what each send, each wait for a tile, each signal and the barrier take. -/
theorem kits (c : Dev nD) : (iprop(records m K ∗ linear c ∗ credits c) : sProp 𝕄)
    ⊢ iprop((bigSep Finset.univ fun s => sendKit m K c s) ∗ (bigSep Finset.univ fun s => waitKit m K c s) ∗ (bigSep Finset.univ fun i => signalKit m K c i) ∗ barKit m K c) := by
  unfold linear payToks credits
  rw [bigSep_CI]
  iintro ⟨#HR, ⟨⟨HaB, HaS, HaR⟩, HtB, HtS, HtR⟩, HcB, HcR⟩
  isplitl [HtS HtR]
  · iapply (bigSep_upgrade (R := records m K) (Φ := fun s => iprop(dutyTok ER (sndCell c s) 0 (dSnd s) ∗ dutyTok ER (rcvCell (peer c s) s) 0 (dRcv s)))
      (fun s => by
        unfold sendKit
        iintro ⟨#HR, HtS, HtR⟩
        isplitr; · iapply (inv_at m K c (kSnd s)); iexact HR
        isplitr; · iapply (inv_at m K (peer c s) (kRcv s)); iexact HR
        isplitl [HtS]; · iexact HtS
        isplitr; · iapply (reached_at m K c (kSnd s)); iexact HR
        iexact HtR))
    isplitr; · iexact HR
    rw [bigSep_sep']
    isplitl [HtS]; · iexact HtS
    iexact HtR
  isplitl [HaS HaR HcR]
  · iapply (bigSep_upgrade (R := records m K) (Φ := fun s => iprop(atPos ER (sndCell c s) 0 ∅ 0 ∗ atPos ER (rcvCell c s) 0 ∅ 0 ∗ cred (tallyAt (rcvCell c s) () N)))
      (fun s => by
        unfold waitKit
        iintro ⟨#HR, H⟩
        isplitr; · iapply (inv_at m K c (kSnd s)); iexact HR
        isplitr; · iapply (inv_at m K c (kRcv s)); iexact HR
        iexact H))
    isplitr; · iexact HR
    rw [bigSep_sep', bigSep_sep']
    isplitl [HaS]; · iexact HaS
    isplitl [HaR]; · iexact HaR
    iexact HcR
  isplitl [HtB]
  · iapply (bigSep_upgrade (R := records m K) (Φ := fun i : Fin 3 => dutyTok ER (barCell (src c i)) 0 (dBar i))
      (fun i => by
        unfold signalKit
        iintro ⟨#HR, Ht⟩
        isplitr; · iapply (inv_at m K (src c i) kBar); iexact HR
        isplitl [Ht]; · iexact Ht
        iapply (reached_at m K (src c i) kBar); iexact HR))
    isplitr; · iexact HR
    iexact HtB
  unfold barKit
  isplitr; · iapply (inv_at m K c kBar); iexact HR
  isplitl [HaB]; · iexact HaB
  iexact HcB

/-- Its landing slots, ready to be handed out. -/
theorem slots (c : Dev nD) : (iprop(records m K ∗ bigSep Finset.univ fun s => iprop(∃ f, rbP (F := F) c s f)) : sProp 𝕄)
    ⊢ bigSep Finset.univ fun s => slotOwn c s :=
  bigSep_upgrade (R := records m K) (fun s => by
    unfold slotOwn
    iintro ⟨#HR, H⟩
    isplitl [H]; · iexact H
    iapply (reached_at m K c (kRcv s)); iexact HR)

end Ghost

/-- What device `c` starts from, beside its buffers. -/
def start (c : Dev nD) : sProp 𝕄 :=
  iprop((∃ K, records m K ∗ linear c) ∗ localSems c ∗ credits c ∗ levAts L lv ∗ (bigSep Finset.univ fun j => xArg m c j) ∗ (bigSep Finset.univ fun j => wArg m c j))

/-- What it holds before the body, and what after. -/
def Φ₀ (c : Dev nD) : sProp 𝕄 := iprop(start m c ∗ scratch c)
def Φ₁ (c : Dev nD) : sProp 𝕄 :=
  iprop(scratch c ∗ localSems c ∗ (bigSep Finset.univ fun s => iprop(semVal (sndCell c s) 0 ∗ semVal (rcvCell c s) 0)) ∗ semVal (barCell c) 0)

/-! ## The body -/

/-- The plan runs from there, and leaves `OUT m c` in the result's buffer. -/
theorem wp_plan (c : Dev nD) (Q : PUnit → sProp (MT nD τ sig Unit (Elt F) ℕ UU ℕ)) :
    (Φ₀ m c : sProp 𝕄)
      ⊢ iprop(owesX c (O₀ c) -∗ (∃ f, ((c : Thread nD τ).loc cc0_stg0_0) ↦{fullShare} f)
          -∗ ((Φ₁ c ∗ owesX c 0 ∗ (((c : Thread nD τ).loc cc0_stg0_0) ↦{fullShare} OUT m c)) -∗ Q ⟨⟩) -∗ WP c plan Q) := by
  unfold Φ₀ start scratch localSems plan
  rw [bigSep_two fun b : Fin 2 => semVal ((c : Thread nD τ), .dma (wS b)) 0]
  simp only [Prog.lift, Prog.bind_op, Prog.bind_ret, wp_deviceId]
  rw [← bind_pure (products c)]
  iintro ⟨⟨⟨%K, #HR, Hl⟩, ⟨HvX, HvW⟩, Hcr, #Hlev, Hx, Hw⟩, Hd0, Hd1, Hd2, Hd3⟩ HO Ho Hk
  ihave Hkits := (kits m K c) $$ [Hl Hcr]
  · isplitr; · iexact HR
    isplitl [Hl]; · iexact Hl
    iexact Hcr
  icases Hkits with ⟨HgS, HgW, HgB, Hbar⟩
  ihave Hrb := (rb_open c) $$ Hd3
  ihave Hrb := (slots m K c) $$ [Hrb]
  · isplitr; · iexact HR
    iexact Hrb
  ihave Hxd := (xd_open c) $$ Hd0
  ihave Hxb := (xb_open c) $$ Hd1
  ihave Hwd := (wd_open c) $$ Hd2
  ihave Ho := (o_open c) $$ Ho
  iapply (wp_exchange m K c) $$ [HgS Hrb HgB Hbar Hx Hxd HvX Hxb HO] Hlev
  · unfold exchangePre
    isplitl [HgS]; · iexact HgS
    isplitl [Hrb]; · iexact Hrb
    isplitl [HgB]; · iexact HgB
    isplitl [Hbar]; · iexact Hbar
    isplitl [Hx]; · iexact Hx
    isplitl [Hxd]; · iexact Hxd
    isplitl [HvX]; · iexact HvX
    isplitl [Hxb]; · iexact Hxb
    iexact HO
  unfold exchangePost
  iintro ⟨Hc, Hxb, Hxd, HvX, HzB, HO⟩
  iapply (wp_products m K c) $$ [HgW Hc Hw Hwd HvW Hxb Ho HO] Hlev
  · unfold productsPre
    isplitl [HgW]; · iexact HgW
    isplitl [Hc]; · iexact Hc
    isplitl [Hw]; · iexact Hw
    isplitl [Hwd]; · iexact Hwd
    isplitl [HvW]; · iexact HvW
    isplitl [Hxb]; · iexact Hxb
    isplitl [Ho]; · iexact Ho
    iexact HO
  unfold productsPost
  iintro ⟨Hxb, Hrb, HzX, Hwd, HvW, Ho, HO⟩
  ihave HvW := (Entails.of_eq (bigSep_two fun b : Fin 2 => (semVal ((c : Thread nD τ), .dma (wS b)) 0 : sProp 𝕄)).symm) $$ HvW
  unfold WP
  rw [Prog.pure_eq_ret, wp_ret]; imodintro
  iapply Hk
  unfold Φ₁ scratch localSems
  isplitl [Hxd Hxb Hwd Hrb HvX HvW HzX HzB]
  · isplitl [Hxd Hxb Hwd Hrb]
    · isplitl [Hxd]; · iapply (xd_close c _ _) $$ Hxd
      isplitl [Hxb]; · iapply (xb_close m c) $$ Hxb
      isplitl [Hwd]; · iapply (wd_close c _ _) $$ Hwd
      iapply (rb_close m c) $$ Hrb
    isplitl [HvX HvW]
    · isplitl [HvX]; · iexact HvX
      iexact HvW
    isplitl [HzX]; · iexact HzX
    iexact HzB
  isplitl [HO]; · iexact HO
  iapply (o_close m c) $$ Ho

/-! ## The pipeline's data -/

/-- The one window is the result's: it ends at `OUT m c`. The body owes at its start what device `c` owes at launch, and nothing after. -/
def dats (_ : Fin 1) (c : Dev nD) : Dat τ (Elt F) Unit ℕ UU ℕ cfg0 c where
  A w := m ((cfg0.win w).arr.view.loc (c : Thread nD τ))
  after w _ := match w with
    | ⟨0, _⟩ => OUT m c
  Φ t := match t with
    | ⟨0, _⟩ => Φ₀ m c
    | ⟨_ + 1, _⟩ => Φ₁ c
  q _ := fullShare
  owed t := match t with
    | ⟨0, _⟩ => O₀ c
    | ⟨_ + 1, _⟩ => 0

/-- The result's staging buffer as the body's obligation states it, and as the body holds it. -/
theorem owns_stg (c : Dev nD) (X : S1024x2048.Idx → F .f32) :
    (owns (Ix := Unit) (Name := ℕ) (U := UU) (Lvl := ℕ) (c : Thread nD τ) (Memref.whole cc0_stg0_0) fullShare X : sProp 𝕄)
      = iprop(∃ f : S1024x2048.Idx → F .f32, ⌜f = X⌝ ∗ (((c : Thread nD τ).loc cc0_stg0_0) ↦{fullShare} f)) := by
  unfold owns
  simp only [Memref.view_whole, View.read_whole, View.set_whole]
  rfl

set_option maxRecDepth 8000 in
/-- The body's obligation: from what the pipeline hands at the one point to what it takes back. -/
theorem body_obligation (c : Dev nD) : BodyObligation (dats m 0 c) (defs₀ (F := F)) 𝒱₀ () Set.univ := fun t => by
  rw [fin_N0 t, bigSep_W0, bigSep_W0]
  show iprop(Φ₀ m c ∗ (dats m 0 c).owesAt () t0_0.castSucc ∗ (∃ d, owns (c : Thread nD τ) (Memref.whole cc0_stg0_0) fullShare ((dats m 0 c).before 0 t0_0 d)))
    ⊢ WP c (cc0_body (F := F) xM (Memref.isWhole_whole _) wM (Memref.isWhole_whole _) oM (Memref.isWhole_whole _) xdM (Memref.isWhole_whole _)
      xbM (Memref.isWhole_whole _) wdM (Memref.isWhole_whole _) rbM (Memref.isWhole_whole _) cc0_scratch4 cc0_scratch5 cc0_scratch6 cc0_scratch7)
      (fun _ => iprop(Φ₁ c ∗ (dats m 0 c).owesAt () t0_0.succ ∗ owns (c : Thread nD τ) (Memref.whole cc0_stg0_0) fullShare (OUT m c)))
  rw [body_eq, owns_stg]
  unfold Dat.owesAt Pipeline.owesWithin
  rw [show (dats m 0 c).owed t0_0.castSucc = O₀ c from rfl, show (dats m 0 c).owed t0_0.succ = 0 from rfl]
  iintro ⟨H, ⟨%W, -, HO⟩, %d, Ho⟩
  ihave Ho := (Entails.of_eq (owns_stg c _)) $$ Ho
  icases Ho with ⟨%f, -, Ho⟩
  iapply (wp_plan m c _) $$ H [HO] [Ho]
  · unfold owesX; iexists W; iexact HO
  · iexists f; iexact Ho
  unfold owesX
  iintro ⟨H, ⟨%W', HO⟩, Ho⟩
  isplitl [H]; · iexact H
  isplitl [HO]
  · iexists W'
    isplitr; · ipureintro; exact fun _ _ => Or.inl trivial
    iexact HO
  iexists (OUT m c)
  isplitr; · ipureintro; rfl
  iexact Ho

end Cert.A2A

end
-- ==== Proof.Launch.lean ====
/-
# The launch

The ghost state minted and dealt — every cell of every device recorded for the whole mesh, each duty's token to the device
that pays it, each credit to the device that waits —, the run of the whole program from any memory, and what it leaves:
the result of every device, the arguments unchanged, every semaphore counter at zero.
-/
module

public import proofs.«01_k».proof.Proof.Body
public import Idealize.ShloMosaic.Lib.Pipeline.CollectiveSegs
public import Idealize.ShloMosaic.Lib.Quiescent

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]
variable (m : (ℓ : Loc nD τ sig) → Buf (Elt F) ℓ)

variable (ρ : Dev nD → PrngReg)

local notation "𝕄" => MT nD τ sig Unit (Elt F) ℕ UU ℕ

/-! ## The kernel's own semaphores -/

/-- The copies' of `x` and of `w`, and the two ends of the transfers. -/
def osem : Fin 5 ⊕ Fin 2 ⊕ Fin 12 ⊕ Fin 12 → SemLoc sig
  | .inl p => .dma (xS p)
  | .inr (.inl b) => .dma (wS b)
  | .inr (.inr (.inl s)) => .dma (sS s)
  | .inr (.inr (.inr s)) => .dma (rS s)

/-- They are the call's semaphores that are no window's, each once. -/
theorem ownSemFacts : Pipeline.OwnSemFacts cfg0.spec osem := ⟨by decide, by decide, by decide⟩

/-- All of them at zero: the two groups of local copies, then the two ends of the transfers. -/
theorem ownSems_eq (c : Dev nD) : (Pipeline.ownSems0 (Ix := Unit) (Name := ℕ) (U := UU) (Lvl := ℕ) (Val := Elt F) (τ := τ) osem c : sProp 𝕄)
    = iprop((bigSep Finset.univ fun p : Fin 5 => semVal ((c : Thread nD τ), .dma (xS p)) 0) ∗ (bigSep Finset.univ fun b : Fin 2 => semVal ((c : Thread nD τ), .dma (wS b)) 0)
      ∗ (bigSep Finset.univ fun s => semVal (sndCell c s) 0) ∗ (bigSep Finset.univ fun s => semVal (rcvCell c s) 0)) := by
  unfold Pipeline.ownSems0
  rw [bigSep_univ_sum, bigSep_univ_sum, bigSep_univ_sum]
  rfl

/-- The barrier's is the one that outlives the call. -/
theorem unscopedSems_eq (c : Dev nD) : (unscopedSems0 c : sProp 𝕄) = semVal (barCell c) 0 := by
  unfold unscopedSems0
  rw [bigSep_eq_bigSepL_of_eq [SemLoc.reg barS] (by decide) (by decide)]
  rfl

/-! ## The launch element -/

/-- Cells of different devices, or of different kinds, are different. -/
theorem cell_inj : Function.Injective fun ck : Dev nD × CI => cell ck.1 ck.2 := by
  rintro ⟨c, k⟩ ⟨c', k'⟩ h
  exact Prod.ext (congrArg (fun g : GSem nD τ sig => g.1.1) h) (csem_inj _ _ (congrArg Prod.snd h))
/-- So are the tokens of different duties. -/
theorem tok_inj : Function.Injective fun cd : Dev nD × D => ((cell cd.1 (at_ cd.2), 0, cd.2) : GSem nD τ sig × ℕ × D) := by
  rintro ⟨c, d⟩ ⟨c', d'⟩ h
  exact Prod.ext (congrArg (fun x : GSem nD τ sig × ℕ × D => x.1.1.1) h) (congrArg (fun x : GSem nD τ sig × ℕ × D => x.2.2) h)

/-- Every cell of every device, and every duty's token. -/
def allCells : Finset (GSem nD τ sig) := Finset.univ.map ⟨_, cell_inj⟩
def allToks : Finset (GSem nD τ sig × ℕ × D) := Finset.univ.map ⟨_, tok_inj⟩

/-- The element that the run starts from: the pipeline's part, the protocol's, no counters. -/
def u₀ : UU :=
  (initOf (Pipeline.cells cfgs cellOf_inj) (Pipeline.launchToks cfgs cellOf_inj), (initOf allCells allToks, 1))

/-- The pipeline's part of the element and the protocol's. -/
theorem parts (a : UR sig nD τ) (b : UB) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-- What the element gives device `c`: its cells' first rounds, its positions, the tokens of its own cells' duties. -/
def G (c : Dev nD) : sProp 𝕄 :=
  iprop((bigSep Finset.univ fun k => roundState ER (Rd m) (cell c k) 0) ∗ (bigSep Finset.univ fun k => reached ER (cell c k) 0)
    ∗ (bigSep Finset.univ fun k => atPos ER (cell c k) 0 ∅ 0) ∗ bigSep Finset.univ fun d => dutyTok ER (cell c (at_ d)) 0 d)

/-- The protocol's part of the element gives every device its share `G`. -/
theorem minted : BI.own (ER (initOf allCells allToks)) ⊢ (|==> bigSep Finset.univ (G m) : sProp 𝕄) := by
  have hC (Φ : GSem nD τ sig → sProp 𝕄) : bigSep allCells Φ = bigSep Finset.univ fun c : Dev nD => bigSep Finset.univ fun k => Φ (cell c k) := by
    unfold allCells; rw [bigSep_map, bigSep_univ_prod]; rfl
  have hT : (bigSep allToks fun x => (dutyTok ER x.1 x.2.1 x.2.2 : sProp 𝕄))
      = bigSep Finset.univ fun c : Dev nD => bigSep Finset.univ fun d => dutyTok ER (cell c (at_ d)) 0 d := by
    unfold allToks; rw [bigSep_map, bigSep_univ_prod]; rfl
  have hf := Rounds.fund (ER (F := F)) (Rd m) allCells allToks
  rw [hC, hC, hC, hT] at hf
  unfold G
  rw [bigSep_sep', bigSep_sep', bigSep_sep']
  exact hf

/-! ## Dealing -/

/-- Device `c`'s `i`-th peer, as a permutation of the mesh. -/
def srcE (i : Fin 3) : Dev nD ≃ Dev nD := ⟨fun c => src c i, fun c => blk c i, fun c => blk_src c i, fun c => src_blk c i⟩

/-- The peer that slot `s` is sent to has the sender as that slot's source, and the other way round. -/
theorem src_peer (c : Dev nD) (s : Fin 12) : src (peer c s) (s.val / 4) = c := src_blk c ⟨s.val / 4, by omega⟩
theorem peer_src (c : Dev nD) (s : Fin 12) : peer (src c (s.val / 4)) s = c := blk_src c ⟨s.val / 4, by omega⟩
def peerE (s : Fin 12) : Dev nD ≃ Dev nD := ⟨fun c => peer c s, fun c => src c (s.val / 4), fun c => src_peer c s, fun c => peer_src c s⟩

/-- A family over the mesh and over an index, dealt along a permutation of the mesh for every index. -/
theorem bigSep_dealt {T : Type} [Fintype T] [DecidableEq T] (e : T → (Dev nD ≃ Dev nD)) (Φ : Dev nD → T → sProp 𝕄) :
    (bigSep Finset.univ fun c => bigSep Finset.univ fun i => Φ c i) = bigSep Finset.univ fun c => bigSep Finset.univ fun i => Φ (e i c) i := by
  have swap (Ψ : Dev nD → T → sProp 𝕄) : (bigSep Finset.univ fun c => bigSep Finset.univ fun i => Ψ c i) = bigSep Finset.univ fun i => bigSep Finset.univ fun c => Ψ c i :=
    (bigSep_univ_prod fun x : Dev nD × T => Ψ x.1 x.2).symm.trans
      ((bigSep_univ_equiv (Equiv.prodComm T (Dev nD)) fun x : Dev nD × T => Ψ x.1 x.2).trans (bigSep_univ_prod fun x : T × Dev nD => Ψ x.2 x.1))
  rw [swap, swap fun c i => Φ (e i c) i]
  exact bigSep_congr fun i _ => bigSep_univ_equiv (e i) fun c => Φ c i

/-- Every token goes to the device that pays its duty. -/
theorem toks_dealt : (bigSep Finset.univ fun c : Dev nD => bigSep Finset.univ fun d => (dutyTok ER (cell c (at_ d)) 0 d : sProp 𝕄))
    = bigSep Finset.univ fun c : Dev nD => payToks c := by
  unfold payToks
  rw [bigSep_congr (s := Finset.univ) fun (c : Dev nD) _ => bigSep_D fun d => (dutyTok ER (cell c (at_ d)) 0 d : sProp 𝕄), bigSep_sep', bigSep_sep', bigSep_sep', bigSep_sep',
    bigSep_dealt srcE fun c i => (dutyTok ER (cell c (at_ (dBar i))) 0 (dBar i) : sProp 𝕄),
    bigSep_dealt peerE fun c s => (dutyTok ER (cell c (at_ (dRcv s))) 0 (dRcv s) : sProp 𝕄)]
  rfl

/-- What a device has once the cells' invariants are made. -/
def G' (c : Dev nD) : sProp 𝕄 := iprop((∃ K, records m K ∗ linear c) ∗ localSems c)

/-- One device's cells made into invariants. -/
theorem alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (cell c k))) ∗ (bigSep Finset.univ fun k => reached ER (cell c k) 0)
          ∗ (bigSep Finset.univ fun k => atPos ER (cell c k) 0 ∅ 0) ∗ (bigSep Finset.univ fun d => dutyTok ER (cell c (at_ d)) 0 d) ∗ localSems c) := by
  rw [ownSems_eq, unscopedSems_eq]
  unfold G localSems
  iintro ⟨⟨HX, HW, HS, HR⟩, HB, Hst, Hr, Hat, Htok⟩
  imod (show iprop((bigSep Finset.univ fun k => semVal (cell c k) 0) ∗ bigSep Finset.univ fun k => roundState ER (Rd m) (cell c k) 0)
      ⊢ (|={Set.univ}=> bigSep Finset.univ fun k => iprop(∃ κ : ℕ, cellInv ER (Rd m) κ (cell c k)) : sProp 𝕄) from by
        rw [← bigSep_sep']
        exact (bigSep_mono fun k _ => (Rounds.body_intro ER (Rd m) (cell c k)).trans inv_alloc).trans (bigSep_fupd _ _)) $$ [HS HR HB Hst] with Hinv
  · isplitr [Hst]
    · iapply (Entails.of_eq (bigSep_CI fun k => (semVal (cell c k) 0 : sProp 𝕄)).symm)
      isplitl [HB]; · iexact HB
      isplitl [HS]; · iexact HS
      iexact HR
    iexact Hst
  imodintro
  isplitl [Hinv]; · iexact Hinv
  isplitl [Hr]; · iexact Hr
  isplitl [Hat]; · iexact Hat
  isplitl [Htok]; · iexact Htok
  isplitl [HX]; · iexact HX
  iexact HW

/-- The whole mesh's invariants known to every device, and the tokens dealt. -/
theorem regroup :
    (bigSep Finset.univ fun c : Dev nD => iprop((bigSep Finset.univ fun k => iprop(∃ κ : ℕ, cellInv ER (Rd m) κ (cell c k))) ∗ (bigSep Finset.univ fun k => reached ER (cell c k) 0)
          ∗ (bigSep Finset.univ fun k => atPos ER (cell c k) 0 ∅ 0) ∗ (bigSep Finset.univ fun d => dutyTok ER (cell c (at_ d)) 0 d) ∗ localSems c) : sProp 𝕄)
      ⊢ bigSep Finset.univ (G' m) := by
  rw [bigSep_sep', bigSep_sep', bigSep_sep', bigSep_sep', toks_dealt, ← bigSep_univ_prod (fun ck : Dev nD × CI => iprop(∃ κ : ℕ, cellInv ER (Rd m) κ (cell ck.1 ck.2))),
    ← bigSep_univ_prod (fun ck : Dev nD × CI => (reached ER (cell ck.1 ck.2) 0 : sProp 𝕄))]
  iintro ⟨HI, #HR, Hat, Htok, Hloc⟩
  ihave HK := (BI.bigSep_exists_pi Finset.univ (fun (ck : Dev nD × CI) (κ : ℕ) => (cellInv ER (Rd m) κ (cell ck.1 ck.2) : sProp 𝕄))) $$ HI
  icases HK with ⟨%K, #HI⟩
  iapply (bigSep_upgrade (R := records m K)
    (Φ := fun c : Dev nD => iprop((bigSep Finset.univ fun k => atPos ER (cell c k) 0 ∅ 0) ∗ payToks c ∗ localSems c)) (fun c => by
      unfold G' linear
      iintro ⟨#HR, Hat, Htok, Hloc⟩
      isplitr [Hloc]
      · iexists K
        isplitr; · iexact HR
        isplitl [Hat]; · iexact Hat
        iexact Htok
      iexact Hloc))
  isplitr
  · unfold records
    isplitl; · iexact HI
    iexact HR
  rw [bigSep_sep', bigSep_sep']
  isplitl [Hat]; · iexact Hat
  isplitl [Htok]; · iexact Htok
  iexact Hloc

/-- From every device's semaphores at zero and its share: every device's `G'`. -/
theorem dealt : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => alloc m c).trans (bigSep_fupd _ _)).trans (BI.fupd_mono (regroup m))

/-! ## The credits -/

/-- A device owes its twelve tiles, one per slot. -/
theorem owe_sum (c : Dev nD) : owe c 12 = ∑ s : Fin 12, tallyAt (rcvCell (peer c s) s) () N := by
  have h (j : ℕ) : owe c j = ∑ i ∈ Finset.range j, tallyAt (rcvCell (peer c (Fin.ofNat 12 (11 - i))) (Fin.ofNat 12 (11 - i))) () N := by
    induction j with
    | zero => rfl
    | succ j ih => rw [Finset.sum_range_succ, ← ih]; rfl
  rw [h, Finset.sum_range]
  refine Fintype.sum_equiv Fin.revPerm _ _ fun s => ?_
  rw [show Fin.ofNat 12 (11 - s.val) = Fin.revPerm s from Fin.ext (by
    rw [Fin.revPerm_apply, Fin.val_rev]
    show (11 - s.val) % 12 = 12 - (s.val + 1)
    omega)]

/-- What the launch deals device `c` for what the others owe it. -/
theorem credits_intro (c : Dev nD) : (Pipeline.launchCred O₀ c : sProp 𝕄) ⊢ credits c := by
  have hbar (i : Fin 3) : (Pipeline.launchCred (fun d => tallyAt (barCell (src d i)) () 1) c : sProp 𝕄) ⊢ cred (tallyAt (barCell c) () 1) :=
    Pipeline.launchCred_tallyAt (.reg barS) (fun d => src d i) (fun d => blk d i) (fun c => src_blk c i) (fun c => blk_src c i) () 1 c
  have hrcv (s : Fin 12) : (Pipeline.launchCred (fun d => tallyAt (rcvCell (peer d s) s) () N) c : sProp 𝕄) ⊢ cred (tallyAt (rcvCell c s) () N) :=
    Pipeline.launchCred_tallyAt (.dma (rS s)) (fun d => peer d s) (fun d => src d (s.val / 4)) (fun c => peer_src c s) (fun c => src_peer c s) () N c
  rw [show (O₀ : Dev nD → CellTallies nD τ sig Unit) = fun d => (((∑ s : Fin 12, tallyAt (rcvCell (peer d s) s) () N) + tallyAt (barCell (src d (0 : Fin 3).val)) () 1)
      + tallyAt (barCell (src d (2 : Fin 3).val)) () 1) + tallyAt (barCell (src d (1 : Fin 3).val)) () 1 from funext fun d => by unfold O₀ O₁ O₂; rw [owe_sum],
    Pipeline.launchCred_add, Pipeline.launchCred_add, Pipeline.launchCred_add, Pipeline.launchCred_sum]
  unfold credits
  iintro ⟨⟨⟨HR, H0⟩, H2⟩, H1⟩
  isplitl [H0 H1 H2]
  · ihave H0 := (hbar 0) $$ H0
    ihave H1 := (hbar 1) $$ H1
    ihave H2 := (hbar 2) $$ H2
    rw [show (tallyAt (barCell c) () 3 : CellTallies nD τ sig Unit) = tallyAt (barCell c) () 1 + (tallyAt (barCell c) () 1 + tallyAt (barCell c) () 1) from by
      rw [tallyAt_add, tallyAt_add]]
    iapply (cred_add _ _).2
    isplitl [H0]; · iexact H0
    iapply (cred_add _ _).2
    isplitl [H1]; · iexact H1
    iexact H2
  iapply (show (bigSep Finset.univ fun s : Fin 12 => Pipeline.launchCred (fun d => tallyAt (rcvCell (peer d s) s) () N) c)
    ⊢ (bigSep Finset.univ fun s => cred (tallyAt (rcvCell c s) () N) : sProp 𝕄) from bigSep_mono fun s _ => hrcv s) $$ HR

/-! ## Into the call and out of it -/

/-- The shares of the arguments that no copy reads: they witness at the end that the arguments are unchanged. -/
def kept (c : Dev nD) : sProp 𝕄 :=
  iprop((((c : Thread nD τ).loc main_arg0) ↦{Transfers.shareDrop fullShare 5} m ((c : Thread nD τ).loc main_arg0))
    ∗ (((c : Thread nD τ).loc main_arg1) ↦{Transfers.shareDrop fullShare 4} m ((c : Thread nD τ).loc main_arg1)))

/-- What the launch hands device `c` is what its body starts from, beside the shares of the arguments kept aside. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ kept m c) := by
  rw [Pipeline.unscopedRestP_none, unscopedRest0_eq]
  unfold G' start kept xArg wArg
  iintro ⟨⟨Hx, Hw⟩, Hlev, Hcr, -, HK, Hloc⟩
  ihave Hcr := (credits_intro c) $$ Hcr
  ihave Hx := (Transfers.pointsTo_toks fullShare 5).1 $$ Hx
  icases Hx with ⟨Hx0, Hx⟩
  ihave Hw := (Transfers.pointsTo_toks fullShare 4).1 $$ Hw
  icases Hw with ⟨Hw0, Hw⟩
  imodintro
  isplitr [Hx0 Hw0]
  · isplitl [HK]; · iexact HK
    isplitl [Hloc]; · iexact Hloc
    isplitl [Hcr]; · iexact Hcr
    isplitl [Hlev]; · iexact Hlev
    isplitl [Hx]; · iexact Hx
    iexact Hw
  isplitl [Hx0]; · iexact Hx0
  iexact Hw0

/-- With the scratch buffers it is what the body's obligation starts from, -/
theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, H⟩
  isplitl [Hs]; · iexact Hs
  iexact H

/-- and what the body ends with gives back the semaphores at zero and the scratch buffers. -/
theorem leave (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq, ownSems_eq, unscopedSems_eq]
  unfold Φ₁ scratch localSems
  rw [bigSep_sep']
  iintro ⟨H, ⟨HX, HW⟩, ⟨HS, HR⟩, HB⟩
  isplitl [HB]; · iexact HB
  isplitr [H]
  · isplitl [HX]; · iexact HX
    isplitl [HW]; · iexact HW
    isplitl [HS]; · iexact HS
    iexact HR
  iexact H

/-- The write-back's waits lie below whatever a device owes. -/
theorem waits (c : Dev nD) : (levAts L lv : sProp 𝕄) ⊢ Pipeline.cellsWaits cfgs (dats m) () 0 c :=
  Pipeline.cellsWaits_intro cfgs (dats m) () 0 c fun w s t =>
    mayWait_local c _ (by fin_cases w; fin_cases s <;> decide) (by
      rcases t with ⟨_ | _, ht⟩
      · exact late_O₀ c
      · exact (later_owe c 0).late)

/-! ## The run -/

/-- What is read of the final memory: the arguments as they were, and the barrier's counter at zero. -/
theorem read_final (c : Dev nD) (s' : Phys nD τ sig (Elt F)) :
    iprop(unscopedSems0 c ∗ kept m c ∗ SI s') ⊢ (|={Set.univ}=> iprop(⌜(s'.mem.mem ((c : Thread nD τ).loc main_arg0) = m ((c : Thread nD τ).loc main_arg0)
        ∧ s'.mem.mem ((c : Thread nD τ).loc main_arg1) = m ((c : Thread nD τ).loc main_arg1))
        ∧ ∀ sm : SemLoc sig, sm.isScoped .tc = false → s'.mem.sem ((c.tc : Thread nD τ), sm) = 0⌝ ∗ SI s') : sProp 𝕄) := by
  unfold kept
  iintro ⟨Hu, ⟨Hx, Hw⟩, HSI⟩
  icombine HSI Hx gives %hx
  icombine HSI Hw gives %hw
  imod (Pipeline.unscopedSems0_read (X := unscopedSems0 c) (c := c) fupd_intro s') $$ [Hu HSI] with ⟨%hs, HSI⟩
  · isplitl [Hu] <;> iassumption
  imodintro
  isplitr
  · ipureintro
    exact ⟨⟨funext fun i => hx i (Finset.mem_univ i), funext fun i => hw i (Finset.mem_univ i)⟩, hs⟩
  iexact HSI

/-- The result's array after the one write-back is the window's contents. -/
theorem final_eq (c : Dev nD) : (dats m 0 c).arrAt 0 cfg0.N = OUT m c := by
  refine (dats m 0 c).arrAt_eq_of_cover 0 (OUT m c) (fun t _ => ?_) fun i => ⟨t0_0, flush0_0 _, ?_⟩
  · obtain rfl := fin_N0 t
    funext y
    show OUT m c _ = OUT m c _
    refine congrArg (OUT m c) (funext fun a => Fin.ext ?_)
    fin_cases a <;> exact ((win0_0.rect_emb_val_of_index_zero t0_0 _ rfl y).symm)
  · show i ∈ ((View.whole main_v1).slice (win0_0.rect t0_0)).set
    rw [View.set_slice_whole, Rect.mem_set_unit]
    intro a
    fin_cases a <;> exact ⟨Nat.zero_le _, (i _).isLt⟩

set_option maxRecDepth 8000 in
/-- From any memory, on the mesh of four devices and for any reading of the floats: the program ends, every device's
    result is `OUT m c`, its arguments are unchanged and every semaphore counter is at zero. -/
theorem run_main : θ_run defs (onTc (τ := τ) (main (F := F))) ⟨m, fun _ => 0, ρ⟩ (fun r =>
    (∀ c : Dev nD, r.2.mem ((c : Thread nD τ).loc main_v1) = OUT m c
      ∧ r.2.mem ((c : Thread nD τ).loc main_arg0) = m ((c : Thread nD τ).loc main_arg0)
      ∧ r.2.mem ((c : Thread nD τ).loc main_arg1) = m ((c : Thread nD τ).loc main_arg1))
    ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0)
    (hshare := fun c w => by unfold Dat.share; split <;> rfl)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (parts _ _) $$ Hu
      icases H with ⟨HP, HX⟩
      imod (minted m) $$ HX with HG
      imodintro
      isplitl [HP] <;> iassumption)
    (hglob := dealt m)
    (hA := fun _ _ => rfl) (hpf := fun _ k => k.elim0)
    (X := start m) (Y := fun c => unscopedSems0 c) (Z := kept m)
    (hX := start_intro m ρ) (hin := enter m) (hout := leave m)
    (QY := fun c s => (s.mem ((c : Thread nD τ).loc main_arg0) = m ((c : Thread nD τ).loc main_arg0)
        ∧ s.mem ((c : Thread nD τ).loc main_arg1) = m ((c : Thread nD τ).loc main_arg1))
        ∧ ∀ sm : SemLoc sig, sm.isScoped .tc = false → s.sem ((c.tc : Thread nD τ), sm) = 0)
    (hY := read_final m)
    (hQ := fun s h hs => ⟨fun c => ⟨((h c).1 0).trans (final_eq m c), (h c).2.2.1⟩, sem_eq_zero hs fun c => (h c).2.2.2⟩)

end Cert.A2A

end
-- ==== Proof.Ref.lean ====
/-
# The reference over the extended reals

Its result, element by element: the activation `gelu` of a row of `x` times a column of `w`.
-/
module

public import proofs.«01_k».proof.Proof.Gen.ReferenceIdeal.Run
public import Idealize.ShloMosaic.Lib.MatmulPlain
public import Idealize.ShloMosaic.Lib.ValueIdx

@[expose] public section

noncomputable section

namespace Cert.A2A

open Cert.ReferenceIdeal Cert.ReferenceIdeal.Gen
open Idealize.ShloMosaic Idealize.ShloMosaic.TcCoe Idealize.SL.Sem Idealize.ShloMosaic.ValueIdx
open scoped BigOperators

/-- The activation at one element. -/
def gelu (y : EReal) : EReal :=
  (Ideal.ofBits .f32 0x3F000000#32 * y)
    * (Ideal.ofBits .f32 0x3F800000#32 + Ideal.tanh (Ideal.ofBits .f32 0x3F4C422A#32 * (y + Ideal.ofBits .f32 0x3D372713#32 * (y * (y * y)))))

/-- `gelu` of the whole product. -/
def whole (X : S4096x4096.Idx → EReal) (W : S4096x2048.Idx → EReal) : S4096x2048.Idx → EReal :=
  fun i => gelu (∑ k : Fin 4096, X (ix2 (i 0) k) * W (ix2 k (i 1)))

/-- The host's product at one element. -/
theorem dot_apply (X : FVec Ideal S4096x4096 .f32) (W : FVec Ideal S4096x2048 .f32) (i : S4096x2048.Idx) :
    (Host.dotGeneral dot_S4096x4096_S4096x2048_S4096x2048_1_0_0_1_n_n none X W : FVec Ideal S4096x2048 .f32) i = ∑ k : Fin 4096, X (ix2 (i 0) k) * W (ix2 k (i 1)) := by
  conv_lhs => rw [eq_ix2 i]
  exact (Ideal.matmul_plain_apply none X W (fun _ => 0) (i 0) (i 1)).trans (zero_add _)

/-- A constant at every element. -/
abbrev all (b : BitVec 32) : FVec Ideal S4096x2048 .f32 := broadcastInDim S4096x2048 ![] bcast_S_S4096x2048 (constant S_ .f32 b)

/-- It is that constant everywhere. -/
theorem all_apply (b : BitVec 32) (i : S4096x2048.Idx) : all b i = Ideal.ofBits .f32 b := rfl

/-- The host's activation of an array is `gelu` of each element: the cube's factors in the other order. -/
theorem host_act (D : FVec Ideal S4096x2048 .f32) (i : S4096x2048.Idx) :
    mulf (mulf (all 0x3F000000#32) D) (addf (all 0x3F800000#32) (Host.tanh (mulf (all 0x3F4C422A#32) (addf D (mulf (all 0x3D372713#32) (mulf (mulf D D) D)))))) i = gelu (D i) := by
  unfold gelu
  rw [mul_comm (D i) (D i * D i)]
  rfl

/-- The reference's run: its result is `gelu` of the product of its arguments, and they are unchanged. -/
theorem run_reference (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c : Thread nD τ).loc main_v13) = whole (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)) :=
  (θ_run defs _ _).mono (fun r h c => ⟨(h c).1.trans (funext fun i => (host_act _ i).trans (congrArg gelu (dot_apply _ _ i))), (h c).2⟩) (Cert.ReferenceIdeal.Value.run m ρ)

end Cert.A2A

end
-- ==== Proof.Value.lean ====
/-
# The value, over the extended reals

There a change of format is the identity and sums may be taken in any order. So a row tile of a device's result before the
activation is the sum of four partial products, one for each device's columns of `x`, taken in the order in which the tiles
arrive; together they are the whole product, and the activation is the reference's, element by element.
-/
module

public import proofs.«01_k».proof.Proof.Launch
public import proofs.«01_k».proof.Proof.Ref
public import Idealize.ShloMosaic.Lib.Layout

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.ValueIdx
open scoped BigOperators

/-- The kernel's activation of a tile is `gelu` of each element. -/
theorem act_apply (t : FVec Ideal S256x2048 .f32) (j : S256x2048.Idx)  : k0_pay1 (F := Ideal) t j = gelu (t j) := by
  unfold k0_pay1
  simp only [shapeCast_self]
  rfl

/-! ## Products -/

section Products

variable (m : (ℓ : Loc nD τ sig) → Buf (Elt Ideal) ℓ)
variable (X : Cert.ReferenceIdeal.S4096x4096.Idx → EReal) (W : S4096x2048.Idx → EReal)

/-- The whole `x` and the whole `w` by row and column. -/
def xOf (r j : ℕ) : EReal := X (ix2 (n0 := 4096) (n1 := 4096) (Fin.ofNat 4096 r) (Fin.ofNat 4096 j))
def wOf (r j : ℕ) : EReal := W (ix2 (n0 := 4096) (n1 := 2048) (Fin.ofNat 4096 r) (Fin.ofNat 2048 j))

/-- Row `r` of `x` by column `l` of `w`, over the columns of `x` that device `d` holds. -/
def part (r l : ℕ) (d : Dev nD) : EReal := ∑ j : Fin 1024, xOf X r (d.val * 1024 + j.val) * wOf W (d.val * 1024 + j.val) l

/-- What the devices hold of the whole arrays. -/
def Holds : Prop := ∀ c : Dev nD,
  m ((c : Thread nD τ).loc main_arg0) = Layout.block ⟨2, ![4096, 1024]⟩ ⟨2, ![4096, 4096]⟩ 1 4 c X ∧ m ((c : Thread nD τ).loc main_arg1) = W

variable {m X W}

/-- Device `c`'s column `j` of `x` is column `1024 · c + j` of the whole; -/
theorem xAt_eq (h : Holds m X W) (c : Dev nD) (r : ℕ) (j : Fin 1024) : xAt m c r j.val = xOf X r (c.val * 1024 + j.val) := by
  unfold xAt xOf
  rw [(h c).1]
  have hj := j.isLt
  have hc : c.val < 4 := c.isLt
  refine congrArg X (funext fun a => Fin.ext ?_)
  match a with
  | ⟨0, _⟩ => rfl
  | ⟨1, _⟩ =>
    show c.val * 1024 + j.val % 1024 = (c.val * 1024 + j.val) % 4096
    omega

/-- its `w` is the whole `w`. -/
theorem wAt_eq (h : Holds m X W) (c : Dev nD) (r j : ℕ) : wAt m c r j = wOf W r j := by
  unfold wAt wOf
  rw [(h c).2]

/-- One tile's product: a device's tile from `d`, by the block of `w` for the columns that `d` holds. -/
theorem mm_apply (h : Holds m X W) (c d : Dev nD) (k s : ℕ) (hd : ord c k = d) (u : Fin 256) (v : Fin 2048) :
    mmPay (wPay (wBlock m c k)) (xTile m d s) (ix2 u v) = part X W ((blk d (s / 4)).val * 1024 + 256 * (s % 4) + u.val) v.val d := by
  unfold mmPay part
  refine (Ideal.matmul_plain_apply none (shapeCast S256x1024 (xTile m d s) shapeCasts_S1x256x1024_S256x1024) (wPay (wBlock m c k)) (constant S256x2048 .f32 0x00000000#32) u v).trans ?_
  rw [constant_apply, show Ideal.ofBits .f32 0x00000000#32 = 0 from by simp, zero_add]
  refine Finset.sum_congr rfl fun j _ => ?_
  rw [shapeCast_apply (xTile m d s) shapeCasts_S1x256x1024_S256x1024 _ (ix3 (⟨0, Nat.one_pos⟩ : Fin 1) u j) (by
    rw [Shape.rowMajor_val_three, Shape.rowMajor_val_two]
    show (0 * 256 + u.val) * 1024 + j.val = u.val * 1024 + j.val
    rw [Nat.zero_mul, Nat.zero_add])]
  unfold wPay
  rw [truncf_apply, shapeCast_apply (wBlock m c k) shapeCasts_S1x1024x2048_S1024x2048 _ (ix3 (⟨0, Nat.one_pos⟩ : Fin 1) j v) (by
    rw [Shape.rowMajor_val_three, Shape.rowMajor_val_two]
    show (0 * 1024 + j.val) * 2048 + v.val = j.val * 2048 + v.val
    rw [Nat.zero_mul, Nat.zero_add])]
  show xAt m d _ j.val * wAt m c ((ord c k).val * 1024 + j.val) v.val = _
  rw [xAt_eq h, wAt_eq h, hd]

/-- Row tile `q` of device `c` before the activation: the four devices' parts of the product. -/
theorem tile_apply (h : Holds m X W) (c : Dev nD) (q : ℕ) (hq : q < 4) (u : Fin 256) (v : Fin 2048) :
    tile m c q 3 (ix2 u v) = ∑ d : Fin 4, part X W (c.val * 1024 + 256 * q + u.val) v.val d := by
  have own : mmPay (wPay (wBlock m c 0)) (xTile m c (12 + q)) (ix2 u v) = part X W (c.val * 1024 + 256 * q + u.val) v.val (ord c 0) := by
    rw [mm_apply h c c 0 (12 + q) rfl, show (12 + q) / 4 = 3 by omega, show (12 + q) % 4 = q by omega,
      show blk c 3 = c from by revert c; decide]
    rfl
  have got (k : Fin 3) : mmPay (wPay (wBlock m c (k.val + 1))) (xTile m (src c k.val) (4 * k.val + q)) (ix2 u v)
      = part X W (c.val * 1024 + 256 * q + u.val) v.val (ord c (k.val + 1)) := by
    rw [mm_apply h c (src c k.val) (k.val + 1) (4 * k.val + q) rfl, show (4 * k.val + q) / 4 = k.val by omega,
      show (4 * k.val + q) % 4 = q by omega, blk_src]
    rfl
  have step (k : Fin 3) (n : ℕ) (hn : k.val = n) :
      tile m c q (n + 1) (ix2 u v) = tile m c q n (ix2 u v) + part X W (c.val * 1024 + 256 * q + u.val) v.val (ord c (n + 1)) := by
    subst hn
    rw [← got k]
    show addPay (wPay (wBlock m c (k.val + 1))) (xTile m (src c k.val) (4 * k.val + q)) (tile m c q k.val) (ix2 u v) = _
    unfold addPay
    rw [shapeCast_self, addf_apply]
  rw [step 2 2 rfl, step 1 1 rfl, step 0 0 rfl, show tile m c q 0 (ix2 u v) = _ from own, Fin.sum_univ_four]
  generalize part X W (c.val * 1024 + 256 * q + u.val) v.val = f
  fin_cases c
  · show ((f 0 + f 3) + f 1) + f 2 = _
    ac_rfl
  · show ((f 1 + f 0) + f 2) + f 3 = _
    ac_rfl
  · show ((f 2 + f 1) + f 3) + f 0 = _
    ac_rfl
  · show ((f 3 + f 2) + f 0) + f 1 = _
    ac_rfl

/-- The whole product of a row by a column is the sum of the four devices' parts. -/
theorem parts_sum (r : Fin 4096) (l : Fin 2048) : (∑ k : Fin 4096, X (ix2 r k) * W (ix2 k l)) = ∑ d : Fin 4, part X W r.val l.val d := by
  unfold part
  rw [← Fintype.sum_prod_type' (f := fun (d : Fin 4) (j : Fin 1024) => xOf X r.val (d.val * 1024 + j.val) * wOf W (d.val * 1024 + j.val) l.val)]
  refine (Fintype.sum_equiv (finProdFinEquiv (m := 4) (n := 1024)) _ _ fun p => ?_).symm
  have hk : Fin.ofNat 4096 (p.1.val * 1024 + p.2.val) = (finProdFinEquiv p : Fin (4 * 1024)) := Fin.ext (by
    have h1 := p.1.isLt
    have h2 := p.2.isLt
    show (p.1.val * 1024 + p.2.val) % 4096 = p.2.val + 1024 * p.1.val
    omega)
  unfold xOf wOf
  rw [hk, show Fin.ofNat 4096 r.val = r from Fin.ext (Nat.mod_eq_of_lt r.isLt), show Fin.ofNat 2048 l.val = l from Fin.ext (Nat.mod_eq_of_lt l.isLt)]

end Products

/-- Device `c`'s result is its rows of the reference's. -/
theorem out_block {m : (ℓ : Loc nD τ sig) → Buf (Elt Ideal) ℓ} {X : Cert.ReferenceIdeal.S4096x4096.Idx → EReal} {W : S4096x2048.Idx → EReal} (h : Holds m X W) (c : Dev nD) :
    OUT m c = Layout.block ⟨2, ![1024, 2048]⟩ ⟨2, ![4096, 2048]⟩ 0 4 c (whole X W) := by
  funext i
  have h0 : (i 0).val < 1024 := (i 0).isLt
  have h1 : (i 1).val < 2048 := (i 1).isLt
  have hc : c.val < 4 := c.isLt
  rw [Layout.block_apply]
  unfold OUT lay whole
  rw [act_apply, tile_apply h c ((i 0).val / 256) (by omega)]
  refine congrArg gelu (Eq.trans ?_ (parts_sum (X := X) (W := W) ⟨c.val * 1024 + (i 0).val, by omega⟩ ⟨(i 1).val, h1⟩).symm)
  show ∑ d : Fin 4, part X W (c.val * 1024 + 256 * ((i 0).val / 256) + (i 0).val % 256) ((i 1).val % 2048) d = _
  rw [show c.val * 1024 + 256 * ((i 0).val / 256) + (i 0).val % 256 = c.val * 1024 + (i 0).val by omega, Nat.mod_eq_of_lt h1]

end Cert.A2A

end
-- ==== Proof.lean ====
module

public import proofs.«01_k».proof.Defs
public import proofs.«01_k».proof.Proof.Gen.Kernel
public import proofs.«01_k».proof.Proof.Gen.ReferenceIdeal.Run
public import proofs.«01_k».proof.Proof.Value

@[expose] public section

noncomputable section

namespace Cert.Proof

open Idealize.ShloMosaic Idealize.SL.Sem Cert.Kernel

/-- What the run leaves of the arguments and of the counters, whatever the floats are. -/
theorem frame {F : FTy → Type} [FloatOps F] (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD, r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => (h.1 c).2, h.2⟩) (Cert.A2A.run_main m ρ)

/-- The two prints of the kernel declare the same procedures: their texts agree, case by case of the label. -/
theorem defs_eq : @Cert.Kernel.defs Bits _ _ = @Cert.KernelIdeal.defs Bits _ _ := by
  unfold Cert.Kernel.defs Cert.KernelIdeal.defs
  refine congrArg (Pipeline.defs _) ?_
  unfold Cert.Kernel.defs₀ Cert.KernelIdeal.defs₀
  refine congrArg _ (funext fun l => funext fun x => ?_)
  match l, x with
  | 0, (t, s) => rfl
  | ⟨_ + 1, h⟩, _ => exact absurd h (Nat.not_lt.2 (Nat.le_add_left _ _))

/-- The frame of the program as printed: the run, at the float words. -/
theorem frame_kernel : Cert.quiescent_Kernel := by
  intro m ρ _
  rw [defs_eq]
  exact frame (F := Bits) m ρ

/-- The frame of its idealization: the same run, at the extended reals. -/
theorem frame_kernelIdeal : Cert.quiescent_KernelIdeal := fun m ρ _ => frame (F := Ideal) m ρ

/-- The frame of the reference: it runs, leaves its arguments, and has no semaphore. -/
theorem frame_reference : Cert.quiescent_ReferenceIdeal := fun m ρ _ =>
  (θ_run Cert.ReferenceIdeal.defs _ _).mono (fun r h => ⟨fun c => (h c).2, funext fun g => by
    rcases g with ⟨_, ⟨sm⟩ | ⟨sm⟩⟩ <;> exact sm.elim0⟩) (Cert.ReferenceIdeal.Value.run m ρ)

/-- Over the extended reals every device's result is its rows of the reference's result. -/
theorem value : Cert.algebraic_KernelIdeal_ReferenceIdeal := fun m ρ m' ρ' _ h =>
  ⟨Cert.A2A.whole (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono (fun _ hr c => ⟨(hr.1 c).1.trans (Cert.A2A.out_block h c), (hr.1 c).2⟩) (Cert.A2A.run_main (F := Ideal) m ρ),
    (θ_run Cert.ReferenceIdeal.defs _ _).mono (fun _ hr => hr 0) (Cert.A2A.run_reference m' ρ')⟩

theorem claim : Cert.Claim := ⟨Cert.Kernel.Gen.facts, Cert.KernelIdeal.Gen.facts, Cert.ReferenceIdeal.Gen.facts,
  frame_kernel, frame_kernelIdeal, frame_reference, trivial, value⟩

end Cert.Proof

end
